-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_groups_fit_KernelIdeal [hPre_groups_fit_KernelIdeal : Cert.Pre_groups_fit_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_groups_fit_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_groups_fit_ReferenceIdeal [hPre_groups_fit_ReferenceIdeal : Cert.Pre_groups_fit_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_groups_fit_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_groups_fit_KernelIdeal [hKernelIdeal : Cert.KernelIdeal.Facts] [hPre_groups_fit_KernelIdeal : Cert.Pre_groups_fit_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_groups_fit_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_groups_fit_ReferenceIdeal [hReferenceIdeal : Cert.ReferenceIdeal.Facts] [hPre_groups_fit_ReferenceIdeal : Cert.Pre_groups_fit_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_groups_fit_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal_pre_groups_fit_KernelIdeal [hKernelIdeal : Cert.KernelIdeal.Facts] [hReferenceIdeal : Cert.ReferenceIdeal.Facts] [hPre_groups_fit_KernelIdeal : Cert.Pre_groups_fit_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_groups_fit_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = Layout.block ⟨3, ![4, 256, 512]⟩ ⟨3, ![32, 256, 512]⟩ 0 8 c (m' (((0 : Dev Cert.ReferenceIdeal.nD).tc : Thread Cert.ReferenceIdeal.nD Cert.ReferenceIdeal.τ).loc Cert.ReferenceIdeal.main_arg3))) →
    ∃ (v0 : Buf (Elt Ideal) (((0 : Dev Cert.ReferenceIdeal.nD).tc : Thread Cert.ReferenceIdeal.nD Cert.ReferenceIdeal.τ).loc Cert.ReferenceIdeal.main_v18)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![128, 512]⟩ ⟨2, ![1024, 512]⟩ 0 8 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v18) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_groups_fit_KernelIdeal : Cert.Pre_groups_fit_KernelIdeal.Facts) (hPre_groups_fit_ReferenceIdeal : Cert.Pre_groups_fit_ReferenceIdeal.Facts),
    quiescent_Kernel (hKernel := hKernel)
    ∧ quiescent_KernelIdeal (hKernelIdeal := hKernelIdeal)
    ∧ quiescent_KernelIdeal_pre_groups_fit_KernelIdeal (hKernelIdeal := hKernelIdeal) (hPre_groups_fit_KernelIdeal := hPre_groups_fit_KernelIdeal)
    ∧ quiescent_ReferenceIdeal (hReferenceIdeal := hReferenceIdeal)
    ∧ quiescent_ReferenceIdeal_pre_groups_fit_ReferenceIdeal (hReferenceIdeal := hReferenceIdeal) (hPre_groups_fit_ReferenceIdeal := hPre_groups_fit_ReferenceIdeal)
    ∧ preserves_Kernel_KernelIdeal
    ∧ algebraic_KernelIdeal_ReferenceIdeal_pre_groups_fit_KernelIdeal (hKernelIdeal := hKernelIdeal) (hReferenceIdeal := hReferenceIdeal) (hPre_groups_fit_KernelIdeal := hPre_groups_fit_KernelIdeal)
-- ==== Pre_groups_fit_KernelIdeal.lean ====
abbrev S1024x256 : Shape := ⟨2, ![1024, 256]⟩
abbrev S256x32 : Shape := ⟨2, ![256, 32]⟩
abbrev S1024x1 : Shape := ⟨2, ![1024, 1]⟩
abbrev S4x256x512 : Shape := ⟨3, ![4, 256, 512]⟩
abbrev S32 : Shape := ⟨1, ![32]⟩
abbrev S1x32 : Shape := ⟨2, ![1, 32]⟩
abbrev S1024x32 : Shape := ⟨2, ![1024, 32]⟩
abbrev S_ : Shape := ⟨0, ![]⟩
abbrev S8x128x8x4 : Shape := ⟨4, ![8, 128, 8, 4]⟩
abbrev S8x8 : Shape := ⟨2, ![8, 8]⟩

class Facts : Prop where
  bcast_S32_S1x32_1 : S32.BroadcastsInDim S1x32 (![1] : Fin 1 → Fin S1x32.rank)
  bcast_S1024x1_S1024x32_0_1 : S1024x1.BroadcastsInDim S1024x32 (![0, 1] : Fin 2 → Fin S1024x32.rank)
  bcast_S1x32_S1024x32_0_1 : S1x32.BroadcastsInDim S1024x32 (![0, 1] : Fin 2 → Fin S1024x32.rank)
  natLt_1_32 : 1 < 32
  bcast_S_S_ : S_.BroadcastsInDim S_ (![] : Fin 0 → Fin S_.rank)
  reduceWindows_S1024x32_S1024x32_w1024s1p1023_0_w1s1p0_0 : S1024x32.ReduceWindows (![1024, 1] : Fin 2 → Nat) ![1, 1] ![1023, 0] ![0, 0] S1024x32
  h_S_ : 0 < S_.numel
  bcast_S_S1024x32 : S_.BroadcastsInDim S1024x32 (![] : Fin 0 → Fin S1024x32.rank)
  shapeCasts_S1024x32_S8x128x8x4 : S1024x32.ShapeCasts S8x128x8x4
  reducesTo_S8x128x8x4_S8x8_d1_3 : S8x128x8x4.ReducesTo [1, 3] S8x8
  bcast_S_S8x8 : S_.BroadcastsInDim S8x8 (![] : Fin 0 → Fin S8x8.rank)
  reducesTo_S8x8_S_d0_1 : S8x8.ReducesTo [0, 1] S_

variable [Facts]

def fn_cumsum_0 {F : FTy → Type} [FloatOps F] (arg0 : IVec S1024x32 32) : IVec S1024x32 32 :=
  let c : IVec S_ 32 := constantI S_ 32 0#32
  let v0 : IVec S_ 32 := broadcastInDim S_ ![] bcast_S_S_ c
  let v1 : IVec S1024x32 32 := (fun x v => Host.reduceWindow IntOp.addi ![1024, 1] ![1, 1] ![1023, 0] ![0, 0] x v reduceWindows_S1024x32_S1024x32_w1024s1p1023_0_w1s1p0_0 h_S_) arg0 v0
  v1

def fn_cumsum {F : FTy → Type} [FloatOps F] (arg0 : IVec S1024x32 32) : IVec S1024x32 32 :=
  let v0 : IVec S1024x32 32 := fn_cumsum_0 (F := F) arg0
  v0

def fn {F : FTy → Type} [FloatOps F] (main_arg0 : FVec F S1024x256 .f32) (main_arg1 : FVec F S256x32 .f32) (main_arg2 : IVec S1024x1 32) (main_arg3 : FVec F S4x256x512 .f32) : IVec S_ 1 :=
  let main_v0 : IVec S32 32 := iotaInDim S32 32 0
  let main_v1 : IVec S1x32 32 := broadcastInDim S1x32 ![1] bcast_S32_S1x32_1 main_v0
  let main_v2 : IVec S1024x32 32 := broadcastInDim S1024x32 ![0, 1] bcast_S1024x1_S1024x32_0_1 main_arg2
  let main_v3 : IVec S1024x32 32 := broadcastInDim S1024x32 ![0, 1] bcast_S1x32_S1024x32_0_1 main_v1
  let main_v4 : IVec S1024x32 1 := cmpi .eq main_v2 main_v3
  let main_v5 : IVec S1024x32 32 := (extui 32 · natLt_1_32) main_v4
  let main_v6 : IVec S1024x32 32 := fn_cumsum (F := F) main_v5
  let main_v7 : IVec S1024x32 32 := subi main_v6 main_v5
  let main_c : IVec S_ 32 := constantI S_ 32 0#32
  let main_v8 : IVec S1024x32 32 := broadcastInDim S1024x32 ![] bcast_S_S1024x32 main_c
  let main_v9 : IVec S1024x32 1 := cmpi .sgt main_v5 main_v8
  let main_c_0 : IVec S_ 32 := constantI S_ 32 25#32
  let main_v10 : IVec S1024x32 32 := broadcastInDim S1024x32 ![] bcast_S_S1024x32 main_c_0
  let main_v11 : IVec S1024x32 1 := cmpi .slt main_v7 main_v10
  let main_v12 : IVec S1024x32 1 := andi main_v9 main_v11
  let main_v13 : IVec S1024x32 32 := (extui 32 · natLt_1_32) main_v12
  let main_v14 : IVec S8x128x8x4 32 := shapeCast S8x128x8x4 main_v13 shapeCasts_S1024x32_S8x128x8x4
  let main_c_1 : IVec S_ 32 := constantI S_ 32 0#32
  let main_v15 : IVec S8x8 32 := (fun x v => Host.reduce IntOp.addi x v reducesTo_S8x128x8x4_S8x8_d1_3 h_S_) main_v14 main_c_1
  let main_c_2 : IVec S_ 32 := constantI S_ 32 48#32
  let main_v16 : IVec S8x8 32 := broadcastInDim S8x8 ![] bcast_S_S8x8 main_c_2
  let main_v17 : IVec S8x8 1 := cmpi .sle main_v15 main_v16
  let main_c_3 : IVec S_ 1 := constantI S_ 1 1#1
  let main_v18 : IVec S_ 1 := (fun x v => Host.reduce IntOp.andi x v reducesTo_S8x8_S_d0_1 h_S_) main_v17 main_c_3
  main_v18
-- ==== Pre_groups_fit_ReferenceIdeal.lean ====
abbrev S1024x256 : Shape := ⟨2, ![1024, 256]⟩
abbrev S256x32 : Shape := ⟨2, ![256, 32]⟩
abbrev S1024x1 : Shape := ⟨2, ![1024, 1]⟩
abbrev S32x256x512 : Shape := ⟨3, ![32, 256, 512]⟩
abbrev S32 : Shape := ⟨1, ![32]⟩
abbrev S1x32 : Shape := ⟨2, ![1, 32]⟩
abbrev S1024x32 : Shape := ⟨2, ![1024, 32]⟩
abbrev S_ : Shape := ⟨0, ![]⟩
abbrev S8x128x8x4 : Shape := ⟨4, ![8, 128, 8, 4]⟩
abbrev S8x8 : Shape := ⟨2, ![8, 8]⟩

class Facts : Prop where
  bcast_S32_S1x32_1 : S32.BroadcastsInDim S1x32 (![1] : Fin 1 → Fin S1x32.rank)
  bcast_S1024x1_S1024x32_0_1 : S1024x1.BroadcastsInDim S1024x32 (![0, 1] : Fin 2 → Fin S1024x32.rank)
  bcast_S1x32_S1024x32_0_1 : S1x32.BroadcastsInDim S1024x32 (![0, 1] : Fin 2 → Fin S1024x32.rank)
  natLt_1_32 : 1 < 32
  bcast_S_S_ : S_.BroadcastsInDim S_ (![] : Fin 0 → Fin S_.rank)
  reduceWindows_S1024x32_S1024x32_w1024s1p1023_0_w1s1p0_0 : S1024x32.ReduceWindows (![1024, 1] : Fin 2 → Nat) ![1, 1] ![1023, 0] ![0, 0] S1024x32
  h_S_ : 0 < S_.numel
  bcast_S_S1024x32 : S_.BroadcastsInDim S1024x32 (![] : Fin 0 → Fin S1024x32.rank)
  shapeCasts_S1024x32_S8x128x8x4 : S1024x32.ShapeCasts S8x128x8x4
  reducesTo_S8x128x8x4_S8x8_d1_3 : S8x128x8x4.ReducesTo [1, 3] S8x8
  bcast_S_S8x8 : S_.BroadcastsInDim S8x8 (![] : Fin 0 → Fin S8x8.rank)
  reducesTo_S8x8_S_d0_1 : S8x8.ReducesTo [0, 1] S_

variable [Facts]

def fn_cumsum_0 {F : FTy → Type} [FloatOps F] (arg0 : IVec S1024x32 32) : IVec S1024x32 32 :=
  let c : IVec S_ 32 := constantI S_ 32 0#32
  let v0 : IVec S_ 32 := broadcastInDim S_ ![] bcast_S_S_ c
  let v1 : IVec S1024x32 32 := (fun x v => Host.reduceWindow IntOp.addi ![1024, 1] ![1, 1] ![1023, 0] ![0, 0] x v reduceWindows_S1024x32_S1024x32_w1024s1p1023_0_w1s1p0_0 h_S_) arg0 v0
  v1

def fn_cumsum {F : FTy → Type} [FloatOps F] (arg0 : IVec S1024x32 32) : IVec S1024x32 32 :=
  let v0 : IVec S1024x32 32 := fn_cumsum_0 (F := F) arg0
  v0

def fn {F : FTy → Type} [FloatOps F] (main_arg0 : FVec F S1024x256 .f32) (main_arg1 : FVec F S256x32 .f32) (main_arg2 : IVec S1024x1 32) (main_arg3 : FVec F S32x256x512 .f32) : IVec S_ 1 :=
  let main_v0 : IVec S32 32 := iotaInDim S32 32 0
  let main_v1 : IVec S1x32 32 := broadcastInDim S1x32 ![1] bcast_S32_S1x32_1 main_v0
  let main_v2 : IVec S1024x32 32 := broadcastInDim S1024x32 ![0, 1] bcast_S1024x1_S1024x32_0_1 main_arg2
  let main_v3 : IVec S1024x32 32 := broadcastInDim S1024x32 ![0, 1] bcast_S1x32_S1024x32_0_1 main_v1
  let main_v4 : IVec S1024x32 1 := cmpi .eq main_v2 main_v3
  let main_v5 : IVec S1024x32 32 := (extui 32 · natLt_1_32) main_v4
  let main_v6 : IVec S1024x32 32 := fn_cumsum (F := F) main_v5
  let main_v7 : IVec S1024x32 32 := subi main_v6 main_v5
  let main_c : IVec S_ 32 := constantI S_ 32 0#32
  let main_v8 : IVec S1024x32 32 := broadcastInDim S1024x32 ![] bcast_S_S1024x32 main_c
  let main_v9 : IVec S1024x32 1 := cmpi .sgt main_v5 main_v8
  let main_c_0 : IVec S_ 32 := constantI S_ 32 25#32
  let main_v10 : IVec S1024x32 32 := broadcastInDim S1024x32 ![] bcast_S_S1024x32 main_c_0
  let main_v11 : IVec S1024x32 1 := cmpi .slt main_v7 main_v10
  let main_v12 : IVec S1024x32 1 := andi main_v9 main_v11
  let main_v13 : IVec S1024x32 32 := (extui 32 · natLt_1_32) main_v12
  let main_v14 : IVec S8x128x8x4 32 := shapeCast S8x128x8x4 main_v13 shapeCasts_S1024x32_S8x128x8x4
  let main_c_1 : IVec S_ 32 := constantI S_ 32 0#32
  let main_v15 : IVec S8x8 32 := (fun x v => Host.reduce IntOp.addi x v reducesTo_S8x128x8x4_S8x8_d1_3 h_S_) main_v14 main_c_1
  let main_c_2 : IVec S_ 32 := constantI S_ 32 48#32
  let main_v16 : IVec S8x8 32 := broadcastInDim S8x8 ![] bcast_S_S8x8 main_c_2
  let main_v17 : IVec S8x8 1 := cmpi .sle main_v15 main_v16
  let main_c_3 : IVec S_ 1 := constantI S_ 1 1#1
  let main_v18 : IVec S_ 1 := (fun x v => Host.reduce IntOp.andi x v reducesTo_S8x8_S_d0_1 h_S_) main_v17 main_c_3
  main_v18
-- ==== Kernel.lean ====
abbrev S1024x256 : Shape := ⟨2, ![1024, 256]⟩
abbrev S256x32 : Shape := ⟨2, ![256, 32]⟩
abbrev S1024x1 : Shape := ⟨2, ![1024, 1]⟩
abbrev S4x256x512 : Shape := ⟨3, ![4, 256, 512]⟩
abbrev S128x512 : Shape := ⟨2, ![128, 512]⟩
abbrev S1024x32 : Shape := ⟨2, ![1024, 32]⟩
abbrev S8x48x512 : Shape := ⟨3, ![8, 48, 512]⟩
abbrev S7 : Shape := ⟨1, ![7]⟩
abbrev S8 : Shape := ⟨1, ![8]⟩
abbrev S1x4 : Shape := ⟨2, ![1, 4]⟩
abbrev S1024x4 : Shape := ⟨2, ![1024, 4]⟩
abbrev S1024x1024 : Shape := ⟨2, ![1024, 1024]⟩
abbrev S4x128 : Shape := ⟨2, ![4, 128]⟩
abbrev S1024x128 : Shape := ⟨2, ![1024, 128]⟩
abbrev S128x256 : Shape := ⟨2, ![128, 256]⟩
abbrev S32x256 : Shape := ⟨2, ![32, 256]⟩
abbrev S1x256x512 : Shape := ⟨3, ![1, 256, 512]⟩
abbrev S256x512 : Shape := ⟨2, ![256, 512]⟩
abbrev S32x512 : Shape := ⟨2, ![32, 512]⟩
abbrev S8x1 : Shape := ⟨2, ![8, 1]⟩
abbrev S8x1024 : Shape := ⟨2, ![8, 1024]⟩
abbrev S8x4 : Shape := ⟨2, ![8, 4]⟩
abbrev S4x4 : Shape := ⟨2, ![4, 4]⟩
abbrev S8x128 : Shape := ⟨2, ![8, 128]⟩
abbrev S1x1024 : Shape := ⟨2, ![1, 1024]⟩
abbrev S1x128 : Shape := ⟨2, ![1, 128]⟩
abbrev S384x8 : Shape := ⟨2, ![384, 8]⟩
abbrev S384x128 : Shape := ⟨2, ![384, 128]⟩
abbrev S48x128 : Shape := ⟨2, ![48, 128]⟩
abbrev S48x512 : Shape := ⟨2, ![48, 512]⟩
abbrev S1x48x512 : Shape := ⟨3, ![1, 48, 512]⟩
abbrev S_ : Shape := ⟨0, ![]⟩
abbrev S1 : Shape := ⟨1, ![1]⟩
abbrev S1x32 : Shape := ⟨2, ![1, 32]⟩
abbrev S128x32 : Shape := ⟨2, ![128, 32]⟩
abbrev S128x1 : Shape := ⟨2, ![128, 1]⟩
abbrev S32x32 : Shape := ⟨2, ![32, 32]⟩
abbrev S32x1 : Shape := ⟨2, ![32, 1]⟩
abbrev S128x384 : Shape := ⟨2, ![128, 384]⟩
abbrev S384x512 : Shape := ⟨2, ![384, 512]⟩

abbrev nBuf : Space → Nat
  | .hbm => 5
  | .vmem => 8
  | .smem => 0
  | _ => 0

abbrev bufTy : (tb : Table) → Fin (tcTables nBuf tb) → BufTy
  | .hbm, ⟨0, _⟩ => ⟨S1024x256, .f32⟩
  | .hbm, ⟨1, _⟩ => ⟨S256x32, .f32⟩
  | .hbm, ⟨2, _⟩ => ⟨S1024x1, .i32⟩
  | .hbm, ⟨3, _⟩ => ⟨S4x256x512, .f32⟩
  | .hbm, ⟨4, _⟩ => ⟨S128x512, .f32⟩
  | .local _ .vmem, ⟨0, _⟩ => ⟨S1024x256, .f32⟩
  | .local _ .vmem, ⟨1, _⟩ => ⟨S1024x1, .i32⟩
  | .local _ .vmem, ⟨2, _⟩ => ⟨S4x256x512, .f32⟩
  | .local _ .vmem, ⟨3, _⟩ => ⟨S128x512, .f32⟩
  | .local _ .vmem, ⟨4, _⟩ => ⟨S1024x32, .f32⟩
  | .local _ .vmem, ⟨5, _⟩ => ⟨S128x512, .bf16⟩
  | .local _ .vmem, ⟨6, _⟩ => ⟨S8x48x512, .bf16⟩
  | .local _ .vmem, ⟨7, _⟩ => ⟨S8x48x512, .bf16⟩
  | _, _ => ⟨S1024x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 1 → Bool
  | ⟨0, _⟩ => false
  | _ => false

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  (ofTc nBuf bufTy 1 19 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_scratch0 : Ref sig .tc := ⟨.vmem, 4, rfl⟩
abbrev cc0_scratch1 : Ref sig .tc := ⟨.vmem, 5, rfl⟩
abbrev cc0_scratch2 : Ref sig .tc := ⟨.vmem, 6, rfl⟩
abbrev cc0_scratch3 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32_114 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_110 : BitVec 32 := 1#32
  let v317 : BitVec 32 := Scalar.addi v2 c1_i32_110
  let c8_i32_111 : BitVec 32 := 8#32
  let v318 : BitVec 32 := Scalar.remsi v317 c8_i32_111
  let c1_i32_113 : BitVec 32 := 1#32
  let v319 : BitVec 32 := Scalar.muli v318 c1_i32_113
  let v320 : BitVec 32 := Scalar.addi c0_i32_114 v319
  v320.toNat
def k0_dev2 (d0 : Dev nD) : Nat :=
  let c0_i32_118 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v321 : BitVec 32 := Scalar.addi v2 c2_i32
  let c8_i32_115 : BitVec 32 := 8#32
  let v322 : BitVec 32 := Scalar.remsi v321 c8_i32_115
  let c1_i32_117 : BitVec 32 := 1#32
  let v323 : BitVec 32 := Scalar.muli v322 c1_i32_117
  let v324 : BitVec 32 := Scalar.addi c0_i32_118 v323
  v324.toNat
def k0_dev3 (d0 : Dev nD) : Nat :=
  let c0_i32_122 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v325 : BitVec 32 := Scalar.addi v2 c3_i32
  let c8_i32_119 : BitVec 32 := 8#32
  let v326 : BitVec 32 := Scalar.remsi v325 c8_i32_119
  let c1_i32_121 : BitVec 32 := 1#32
  let v327 : BitVec 32 := Scalar.muli v326 c1_i32_121
  let v328 : BitVec 32 := Scalar.addi c0_i32_122 v327
  v328.toNat
def k0_dev4 (d0 : Dev nD) : Nat :=
  let c0_i32_127 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_123 : BitVec 32 := 4#32
  let v329 : BitVec 32 := Scalar.addi v2 c4_i32_123
  let c8_i32_124 : BitVec 32 := 8#32
  let v330 : BitVec 32 := Scalar.remsi v329 c8_i32_124
  let c1_i32_126 : BitVec 32 := 1#32
  let v331 : BitVec 32 := Scalar.muli v330 c1_i32_126
  let v332 : BitVec 32 := Scalar.addi c0_i32_127 v331
  v332.toNat
def k0_dev5 (d0 : Dev nD) : Nat :=
  let c0_i32_131 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32 : BitVec 32 := 5#32
  let v333 : BitVec 32 := Scalar.addi v2 c5_i32
  let c8_i32_128 : BitVec 32 := 8#32
  let v334 : BitVec 32 := Scalar.remsi v333 c8_i32_128
  let c1_i32_130 : BitVec 32 := 1#32
  let v335 : BitVec 32 := Scalar.muli v334 c1_i32_130
  let v336 : BitVec 32 := Scalar.addi c0_i32_131 v335
  v336.toNat
def k0_dev6 (d0 : Dev nD) : Nat :=
  let c0_i32_135 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32 : BitVec 32 := 6#32
  let v337 : BitVec 32 := Scalar.addi v2 c6_i32
  let c8_i32_132 : BitVec 32 := 8#32
  let v338 : BitVec 32 := Scalar.remsi v337 c8_i32_132
  let c1_i32_134 : BitVec 32 := 1#32
  let v339 : BitVec 32 := Scalar.muli v338 c1_i32_134
  let v340 : BitVec 32 := Scalar.addi c0_i32_135 v339
  v340.toNat
def k0_dev7 (d0 : Dev nD) : Nat :=
  let c0_i32_139 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32 : BitVec 32 := 7#32
  let v341 : BitVec 32 := Scalar.addi v2 c7_i32
  let c8_i32_136 : BitVec 32 := 8#32
  let v342 : BitVec 32 := Scalar.remsi v341 c8_i32_136
  let c1_i32_138 : BitVec 32 := 1#32
  let v343 : BitVec 32 := Scalar.muli v342 c1_i32_138
  let v344 : BitVec 32 := Scalar.addi c0_i32_139 v343
  v344.toNat
def k0_dev8 (d0 : Dev nD) : Nat :=
  let c0_i32_148 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_141 : BitVec 32 := 1#32
  let v345 : BitVec 32 := Scalar.addi v2 c1_i32_141
  let c8_i32_142 : BitVec 32 := 8#32
  let v346 : BitVec 32 := Scalar.remsi v345 c8_i32_142
  let c1_i32_147 : BitVec 32 := 1#32
  let v347 : BitVec 32 := Scalar.muli v346 c1_i32_147
  let v348 : BitVec 32 := Scalar.addi c0_i32_148 v347
  v348.toNat
def k0_dev9 (d0 : Dev nD) : Nat :=
  let c0_i32_160 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_153 : BitVec 32 := 2#32
  let v357 : BitVec 32 := Scalar.addi v2 c2_i32_153
  let c8_i32_154 : BitVec 32 := 8#32
  let v358 : BitVec 32 := Scalar.remsi v357 c8_i32_154
  let c1_i32_159 : BitVec 32 := 1#32
  let v359 : BitVec 32 := Scalar.muli v358 c1_i32_159
  let v360 : BitVec 32 := Scalar.addi c0_i32_160 v359
  v360.toNat
def k0_dev10 (d0 : Dev nD) : Nat :=
  let c0_i32_172 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_165 : BitVec 32 := 3#32
  let v369 : BitVec 32 := Scalar.addi v2 c3_i32_165
  let c8_i32_166 : BitVec 32 := 8#32
  let v370 : BitVec 32 := Scalar.remsi v369 c8_i32_166
  let c1_i32_171 : BitVec 32 := 1#32
  let v371 : BitVec 32 := Scalar.muli v370 c1_i32_171
  let v372 : BitVec 32 := Scalar.addi c0_i32_172 v371
  v372.toNat
def k0_dev11 (d0 : Dev nD) : Nat :=
  let c0_i32_184 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_177 : BitVec 32 := 4#32
  let v381 : BitVec 32 := Scalar.addi v2 c4_i32_177
  let c8_i32_178 : BitVec 32 := 8#32
  let v382 : BitVec 32 := Scalar.remsi v381 c8_i32_178
  let c1_i32_183 : BitVec 32 := 1#32
  let v383 : BitVec 32 := Scalar.muli v382 c1_i32_183
  let v384 : BitVec 32 := Scalar.addi c0_i32_184 v383
  v384.toNat
def k0_dev12 (d0 : Dev nD) : Nat :=
  let c0_i32_196 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_189 : BitVec 32 := 5#32
  let v393 : BitVec 32 := Scalar.addi v2 c5_i32_189
  let c8_i32_190 : BitVec 32 := 8#32
  let v394 : BitVec 32 := Scalar.remsi v393 c8_i32_190
  let c1_i32_195 : BitVec 32 := 1#32
  let v395 : BitVec 32 := Scalar.muli v394 c1_i32_195
  let v396 : BitVec 32 := Scalar.addi c0_i32_196 v395
  v396.toNat
def k0_dev13 (d0 : Dev nD) : Nat :=
  let c0_i32_208 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_201 : BitVec 32 := 6#32
  let v405 : BitVec 32 := Scalar.addi v2 c6_i32_201
  let c8_i32_202 : BitVec 32 := 8#32
  let v406 : BitVec 32 := Scalar.remsi v405 c8_i32_202
  let c1_i32_207 : BitVec 32 := 1#32
  let v407 : BitVec 32 := Scalar.muli v406 c1_i32_207
  let v408 : BitVec 32 := Scalar.addi c0_i32_208 v407
  v408.toNat
def k0_dev14 (d0 : Dev nD) : Nat :=
  let c0_i32_220 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_213 : BitVec 32 := 7#32
  let v417 : BitVec 32 := Scalar.addi v2 c7_i32_213
  let c8_i32_214 : BitVec 32 := 8#32
  let v418 : BitVec 32 := Scalar.remsi v417 c8_i32_214
  let c1_i32_219 : BitVec 32 := 1#32
  let v419 : BitVec 32 := Scalar.muli v418 c1_i32_219
  let v420 : BitVec 32 := Scalar.addi c0_i32_220 v419
  v420.toNat
def k0_off1 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c128_i32_234 : BitVec 32 := 128#32
  let v445 : BitVec 32 := Scalar.muli v2 c128_i32_234
  let v446 : Index := Scalar.indexCast v445
  let c0_235 : Index := 0#32
  ![v446.toNat, 0]
def k0_off2 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c128_i32_234 : BitVec 32 := 128#32
  let v445 : BitVec 32 := Scalar.muli v2 c128_i32_234
  let v448 : Index := Scalar.indexCast v445
  let c0_236 : Index := 0#32
  ![v448.toNat, 0]
def k0_off3 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c128_i32_234 : BitVec 32 := 128#32
  let v445 : BitVec 32 := Scalar.muli v2 c128_i32_234
  let v523 : Index := Scalar.indexCast v445
  let c0_255 : Index := 0#32
  ![v523.toNat, 0]
abbrev stage0_0 : Fin 1 → Memref sig .tc .vmem S1024x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x1 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S4x256x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S128x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== ReferenceIdeal.lean ====
abbrev S1024x256 : Shape := ⟨2, ![1024, 256]⟩
abbrev S256x32 : Shape := ⟨2, ![256, 32]⟩
abbrev S1024x1 : Shape := ⟨2, ![1024, 1]⟩
abbrev S32x256x512 : Shape := ⟨3, ![32, 256, 512]⟩
abbrev S32 : Shape := ⟨1, ![32]⟩
abbrev S1x32 : Shape := ⟨2, ![1, 32]⟩
abbrev S1024x32 : Shape := ⟨2, ![1024, 32]⟩
abbrev S_ : Shape := ⟨0, ![]⟩
abbrev S32x512x1024 : Shape := ⟨3, ![32, 512, 1024]⟩
abbrev S32x1024x512 : Shape := ⟨3, ![32, 1024, 512]⟩
abbrev S32x1024 : Shape := ⟨2, ![32, 1024]⟩
abbrev S32x1024x1 : Shape := ⟨3, ![32, 1024, 1]⟩
abbrev S1024x512 : Shape := ⟨2, ![1024, 512]⟩

abbrev nBuf : Space → Nat
  | .hbm => 32
  | .vmem => 0
  | .smem => 0
  | _ => 0

abbrev bufTy : (tb : Table) → Fin (tcTables nBuf tb) → BufTy
  | .hbm, ⟨0, _⟩ => ⟨S1024x256, .f32⟩
  | .hbm, ⟨1, _⟩ => ⟨S256x32, .f32⟩
  | .hbm, ⟨2, _⟩ => ⟨S1024x1, .i32⟩
  | .hbm, ⟨3, _⟩ => ⟨S32x256x512, .f32⟩
  | .hbm, ⟨4, _⟩ => ⟨S32, .i32⟩
  | .hbm, ⟨5, _⟩ => ⟨S1x32, .i32⟩
  | .hbm, ⟨6, _⟩ => ⟨S1024x32, .i32⟩
  | .hbm, ⟨7, _⟩ => ⟨S1024x32, .i32⟩
  | .hbm, ⟨8, _⟩ => ⟨S1024x32, .i1⟩
  | .hbm, ⟨9, _⟩ => ⟨S1024x32, .i32⟩
  | .hbm, ⟨10, _⟩ => ⟨S_, .i32⟩
  | .hbm, ⟨11, _⟩ => ⟨S_, .i32⟩
  | .hbm, ⟨12, _⟩ => ⟨S1024x32, .i32⟩
  | .hbm, ⟨13, _⟩ => ⟨S1024x32, .i32⟩
  | .hbm, ⟨14, _⟩ => ⟨S_, .i32⟩
  | .hbm, ⟨15, _⟩ => ⟨S1024x32, .i32⟩
  | .hbm, ⟨16, _⟩ => ⟨S1024x32, .i1⟩
  | .hbm, ⟨17, _⟩ => ⟨S_, .i32⟩
  | .hbm, ⟨18, _⟩ => ⟨S1024x32, .i32⟩
  | .hbm, ⟨19, _⟩ => ⟨S1024x32, .i1⟩
  | .hbm, ⟨20, _⟩ => ⟨S1024x32, .i1⟩
  | .hbm, ⟨21, _⟩ => ⟨S32x512x1024, .f32⟩
  | .hbm, ⟨22, _⟩ => ⟨S32x1024x512, .f32⟩
  | .hbm, ⟨23, _⟩ => ⟨S32x1024, .i1⟩
  | .hbm, ⟨24, _⟩ => ⟨S32x1024x1, .i1⟩
  | .hbm, ⟨25, _⟩ => ⟨S_, .f32⟩
  | .hbm, ⟨26, _⟩ => ⟨S_, .f32⟩
  | .hbm, ⟨27, _⟩ => ⟨S32x1024x512, .i1⟩
  | .hbm, ⟨28, _⟩ => ⟨S32x1024x512, .f32⟩
  | .hbm, ⟨29, _⟩ => ⟨S32x1024x512, .f32⟩
  | .hbm, ⟨30, _⟩ => ⟨S_, .f32⟩
  | .hbm, ⟨31, _⟩ => ⟨S1024x512, .f32⟩
  | _, _ => ⟨S1024x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_call0_call0_c : Ref sig .tc := ⟨.hbm, 10, rfl⟩
abbrev main_call0_call0_v0 : Ref sig .tc := ⟨.hbm, 11, rfl⟩
abbrev main_v6 : Ref sig .tc := ⟨.hbm, 12, rfl⟩
abbrev main_v7 : Ref sig .tc := ⟨.hbm, 13, rfl⟩
abbrev main_c : Ref sig .tc := ⟨.hbm, 14, rfl⟩
abbrev main_v8 : Ref sig .tc := ⟨.hbm, 15, rfl⟩
abbrev main_v9 : Ref sig .tc := ⟨.hbm, 16, rfl⟩
abbrev main_c_0 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst : Ref sig .tc := ⟨.hbm, 25, rfl⟩
abbrev main_call1_v0 : Ref sig .tc := ⟨.hbm, 26, rfl⟩
abbrev main_call1_v1 : Ref sig .tc := ⟨.hbm, 27, rfl⟩
abbrev main_call1_v2 : Ref sig .tc := ⟨.hbm, 28, rfl⟩
abbrev main_v17 : Ref sig .tc := ⟨.hbm, 29, rfl⟩
abbrev main_cst_1 : Ref sig .tc := ⟨.hbm, 30, rfl⟩
abbrev main_v18 : Ref sig .tc := ⟨.hbm, 31, rfl⟩

abbrev nD : Nat := 1
abbrev τ : Topo := Topo.v7x

variable {F : FTy → Type} [FloatOps F]
-- ==== Proof.Contents.lean ====
/-
What the kernel computes on one device, as functions of its staged inputs: the routing table `rt`, the tokens `x`,
the device's four expert matrices `w` and the device index `d`. Each intermediate is the printed body's payload at
the values read before it.
-/
module

public import proofs.«01_k».proof.Proof.Gen.KernelIdeal.Skeleton

@[expose] public section

noncomputable section

namespace Cert.KernelIdeal.Run

open Cert.KernelIdeal Cert.KernelIdeal.Gen
open Idealize.ShloMosaic Idealize.ShloMosaic.TcCoe

variable {F : FTy → Type} [FloatOps F]

/-! ## The memrefs -/

abbrev xM : Memref sig .tc .vmem S1024x256 .f32 := Memref.whole cc0_stg0_0
abbrev rtM : Memref sig .tc .vmem S1024x1 .i32 := Memref.whole cc0_stg1_0
abbrev wM : Memref sig .tc .vmem S4x256x512 .f32 := Memref.whole cc0_stg2_0
abbrev oM : Memref sig .tc .vmem S128x512 .f32 := Memref.whole cc0_stg3_0
abbrev rankM : Memref sig .tc .vmem S1024x32 .f32 := Memref.whole cc0_scratch0
abbrev yM : Memref sig .tc .vmem S128x512 .bf16 := Memref.whole cc0_scratch1
abbrev sM : Memref sig .tc .vmem S8x48x512 .bf16 := Memref.whole cc0_scratch2
abbrev vM : Memref sig .tc .vmem S8x48x512 .bf16 := Memref.whole cc0_scratch3

/-! ## The dispatch side: from the inputs to the send buffer -/

def val2 (d : Dev nD) : BitVec 32 := Scalar.remsi (Scalar.divsi (Dev.word d) 1#32) 8#32
def val346 (d : Dev nD) : BitVec 32 := Scalar.remsi (Scalar.addi (val2 d) 1#32) 8#32
def val29 : IVec S4x128 32 := iota .tc S4x128 32 [1] iota_S4x128_d1_w32
def val30 : IVec S4x128 32 := iota .tc S4x128 32 [0] iota_S4x128_d0_w32

section
variable (d : Dev nD) (rt : Vec F S1024x1 .i32) (x : Vec F S1024x256 .f32) (w : Vec F S4x256x512 .f32)

def val4 : IVec S1024x1 32 := k0_pay1 rt
def val21 : FVec F S1024x4 .f32 := k0_pay4 d rt
def val28 : FVec F S1024x4 .f32 := k0_pay5 d rt
def val58 : FVec F S4x128 .bf16 := k0_pay9 (F := F) val29 val30 32#32 k0_pay6 k0_pay7 k0_pay8
def val71 : FVec F S1024x128 .bf16 := k0_pay10 (val21 d rt) (val28 d rt) val29 val30 32#32 k0_pay6 k0_pay7 k0_pay8
def val75 : FVec F S128x256 .f32 := k0_pay11 (val21 d rt) (val28 d rt) val29 val30 32#32 k0_pay6 k0_pay7 k0_pay8 x
def val87 : FVec F S32x256 .bf16 := k0_pay13 (val21 d rt) (val28 d rt) val29 val30 32#32 k0_pay6 k0_pay7 k0_pay8 x

abbrev rW0 : Rect S4x256x512 := Rect.unit (s := S4x256x512) ![0, 0, 0] S1x256x512.size inb_S4x256x512_S1x256x512_0_0_0
abbrev rW1 : Rect S4x256x512 := Rect.unit (s := S4x256x512) ![1, 0, 0] S1x256x512.size inb_S4x256x512_S1x256x512_1_0_0
abbrev rW2 : Rect S4x256x512 := Rect.unit (s := S4x256x512) ![2, 0, 0] S1x256x512.size inb_S4x256x512_S1x256x512_2_0_0
abbrev rW3 : Rect S4x256x512 := Rect.unit (s := S4x256x512) ![3, 0, 0] S1x256x512.size inb_S4x256x512_S1x256x512_3_0_0

/-- The four row blocks of `y`, one per expert of the device. -/
def yBlock : Fin 4 → FVec F S32x512 .bf16
  | 0 => k0_pay12 (val21 d rt) (val28 d rt) val29 val30 32#32 k0_pay6 k0_pay7 k0_pay8 x (wM.view.readAt (Elt F) rW0.toLoadRect w)
  | 1 => k0_pay14 (val87 d rt x) (wM.view.readAt (Elt F) rW1.toLoadRect w)
  | 2 => k0_pay15 (val75 d rt x) (wM.view.readAt (Elt F) rW2.toLoadRect w)
  | 3 => k0_pay16 (val75 d rt x) (wM.view.readAt (Elt F) rW3.toLoadRect w)

/-- Row `r` of `y` is row `r % 32` of the block of expert `r / 32`. -/
def yC : Vec F S128x512 .bf16 := fun I =>
  yBlock d rt x w ⟨(I 0).val / 32, by have h : (I 0).val < 128 := (I 0).isLt; omega⟩
    (fun | ⟨0, _⟩ => (⟨(I 0).val % 32, Nat.mod_lt _ (by decide)⟩ : Fin 32) | ⟨1, _⟩ => (I 1 : Fin 512))

def val120 : IVec S8x1 32 := k0_pay17 (val2 d)
def val121 : IVec S8x1024 32 := iota .tc S8x1024 32 [1] iota_S8x1024_d1_w32
def val174 : IVec S8x128 32 := iota .tc S8x128 32 [1] iota_S8x128_d1_w32
def val171 : FVec F S8x128 .f32 := k0_pay20 (val28 d rt) val58 (val120 d) val121 128#32 k0_pay18 k0_pay19
def val173 : FVec F S8x128 .f32 := k0_pay21 (val21 d rt) val58 (val120 d) val121
def val179 : FVec F S8x128 .f32 := k0_pay22 (val171 d rt) (val173 d rt) val174
def val216 : FVec F S8x128 .f32 := k0_pay23 (val71 d rt) (val120 d)
def val217 : IVec S384x8 32 := iota .tc S384x8 32 [0] iota_S384x8_d0_w32
def val218 : IVec S384x8 32 := iota .tc S384x8 32 [1] iota_S384x8_d1_w32
def val259 : FVec F S384x128 .bf16 := k0_pay26 (val179 d rt) (val216 d rt) val217 val218 48#32 k0_pay24 k0_pay25

/-- What the body stores into slot `k` of the send buffer. -/
def sendBlock : Fin 8 → FVec F S1x48x512 .bf16
  | 0 => k0_pay27 (val179 d rt) (val216 d rt) val217 val218 48#32 k0_pay24 k0_pay25 (yC d rt x w)
  | 1 => k0_pay28 (val259 d rt) (yC d rt x w)
  | 2 => k0_pay29 (val259 d rt) (yC d rt x w)
  | 3 => k0_pay30 (val259 d rt) (yC d rt x w)
  | 4 => k0_pay31 (val259 d rt) (yC d rt x w)
  | 5 => k0_pay33 (k0_pay32 (val259 d rt)) (yC d rt x w)
  | 6 => k0_pay34 (val259 d rt) (yC d rt x w)
  | 7 => k0_pay35 (val259 d rt) (yC d rt x w)

def sendV : Vec F S8x48x512 .bf16 := fun I =>
  sendBlock d rt x w (I 0 : Fin 8) (fun | ⟨0, _⟩ => (0 : Fin 1) | ⟨1, _⟩ => (I 1 : Fin 48) | ⟨2, _⟩ => (I 2 : Fin 512))

/-! ## The combine side: the selection matrix of the device's own block of tokens -/

def val20 : FVec F S1024x1024 .bf16 := k0_pay3 (F := F)
def val434 : IVec S1x32 32 := iota .tc S1x32 32 [1] iota_S1x32_d1_w32
def rankV : Vec F S1024x32 .f32 := k0_pay37 (val4 (F := F) rt) val20 val434
def val447 : Vec F S128x32 .f32 :=
  rankM.view.readAt (Elt F) (Rect.unit (s := S1024x32) (k0_off1 d) S128x32.size (k0_off1_inb d)).toLoadRect (rankV rt)
def val449 : Vec F S128x1 .i32 :=
  rtM.view.readAt (Elt F) (Rect.unit (s := S1024x1) (k0_off2 d) S128x1.size (k0_off2_inb d)).toLoadRect rt
def val524 : Vec F S1x32 .f32 :=
  rankM.view.readAt (Elt F) (Rect.unit (s := S1024x32) (k0_off3 d) S1x32.size (k0_off3_inb d)).toLoadRect (rankV rt)
def val461 : FVec F S128x32 .f32 := k0_pay38 (val447 d rt) (val449 d rt)
def val464 : FVec F S1x32 .f32 := k0_pay39 (val447 d rt) (val449 d rt)
def val465 : IVec S32x32 32 := iota .tc S32x32 32 [0] iota_S32x32_d0_w32
def val466 : IVec S32x32 32 := iota .tc S32x32 32 [1] iota_S32x32_d1_w32
def val477 : BitVec 32 := Scalar.extui (Scalar.cmpi .sgt 4#32 0#32)
def val479 : BitVec 32 := Scalar.extui (Scalar.cmpi .slt 4#32 0#32)
def val522 : FVec F S1x32 .f32 := k0_pay42 (val464 d rt) val465 val466 4#32 k0_pay40 k0_pay41 val477 val479
def val526 : FVec F S1x32 .f32 := k0_pay43 (val524 d rt)
def val257 : F .bf16 := Scalar.ofBits .bf16 0x3F80#16
def val534 : FVec F S128x1 .f32 := k0_pay45 (val447 d rt) (val461 d rt) (val522 d rt) (val526 d rt) val257
def val564 : FVec F S128x1 .f32 := k0_pay46 (val461 d rt) val257
def val566 : FVec F S128x1 .f32 := k0_pay47 (val461 d rt) val257
def val567 : IVec S128x384 32 := iota .tc S128x384 32 [1] iota_S128x384_d1_w32

/-- The selection matrix: row `t`, column `48 k + j`. -/
def pickV : FVec F S128x384 .bf16 :=
  k0_pay51 (val2 d) (val534 d rt) (val564 d rt) (val566 d rt) val567 48#32 k0_pay48 k0_pay49 k0_pay50

end

end Cert.KernelIdeal.Run

end
-- ==== Proof.Proto.lean ====
/-
The exchange between the eight devices: which semaphore stands for what, who pays it, what is handed over with it.

Device `c` gives every other device the right to write one slot of its receive buffer by a unit on that device's
entry semaphore; it waits for the seven units of the others; it then copies slot `k` of its send buffer into slot
`k` of the receive buffer of the device `k` places after it. A copy's completion returns the slot read at the
sender and hands the slot written to the receiver.
-/
module

public import proofs.«01_k».proof.Proof.Contents
public import proofs.«01_k».proof.Proof.Gen.KernelIdeal
public import proofs.«01_k».proof.Proof.Gen.KernelIdeal.Launch
public import proofs.«01_k».proof.Proof.Gen.KernelIdeal.Points
public import Idealize.ShloMosaic.Lib.Pipeline.Launch
public import Idealize.ShloMosaic.Lib.Pipeline.Kit
public import Idealize.ShloMosaic.Lib.Ring
public import Idealize.ShloMosaic.Lib.Tactic

@[expose] public section

noncomputable section

namespace Cert.KernelIdeal.Run

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resources -/

abbrev UB : Type := URounds (GSem nD τ sig) (Fin 7)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

abbrev 𝒱₀ : Variants := Variants.none

/-! ## The devices around the ring -/

set_option backward.proofsInPublic true in
/-- The device `j + 1` places after `c`. -/
def up (j : Fin 7) (c : Dev nD) : Dev nD := ⟨(c.val + (j.val + 1)) % 8, Nat.mod_lt _ (by decide)⟩

theorem up_rev (j : Fin 7) (c : Dev nD) : up j.rev (up j c) = c := by revert j c; decide
theorem up_rev' (j : Fin 7) (c : Dev nD) : up j (up j.rev c) = c := by revert j c; decide
theorem up_inj {j j' : Fin 7} {c : Dev nD} (h : up j c = up j' c) : j = j' := by revert j j' c; decide

def upEquiv (j : Fin 7) : Dev nD ≃ Dev nD := ⟨up j, up j.rev, up_rev j, up_rev' j⟩

set_option backward.proofsInPublic true in
/-- The device whose send buffer slot `k` of `c`'s receive buffer comes from. -/
def src (c : Dev nD) (k : Fin 8) : Dev nD := ⟨(c.val + (8 - k.val)) % 8, Nat.mod_lt _ (by decide)⟩
theorem src_zero (c : Dev nD) : src c 0 = c := by revert c; decide
theorem src_up (i : Fin 7) (c : Dev nD) : src (up i c) i.succ = c := by revert i c; decide

/-! ## The cells -/

abbrev barS : Sem sig := (SemArray.scalar (sig.barrier 0 rfl) : Sems sig S_).sem
set_option backward.proofsInPublic true in
abbrev sendS (i : Fin 7) : DmaSem sig := ⟨i.val + 4, by have := i.isLt; show i.val + 4 < 19; omega⟩
set_option backward.proofsInPublic true in
abbrev recvS (i : Fin 7) : DmaSem sig := ⟨i.val + 12, by have := i.isLt; show i.val + 12 < 19; omega⟩

abbrev barCell (c : Dev nD) : GSem nD τ sig := ((c : Thread nD τ), .reg barS)
abbrev sendCell (c : Dev nD) (i : Fin 7) : GSem nD τ sig := ((c : Thread nD τ), .dma (sendS i))
abbrev recvCell (c : Dev nD) (i : Fin 7) : GSem nD τ sig := ((c : Thread nD τ), .dma (recvS i))

/-! ## The slots of the two buffers -/

theorem slot_inb (k : Fin 8) : ∀ a, (![k.val, 0, 0] : Fin 3 → ℕ) a + S1x48x512.size a ≤ S8x48x512.size a := by
  revert k; decide
/-- Slot `k` of the send buffer and of the receive buffer, as the copies name them. -/
abbrev sSlot (k : Fin 8) : Memref sig .tc .vmem S48x512 .bf16 :=
  (sM.slice (Rect.unit (s := S8x48x512) ![k.val, 0, 0] S1x48x512.size (slot_inb k)) (fun _ => rfl)).squeeze S48x512 squeezes_S1x48x512_S48x512
abbrev vSlot (k : Fin 8) : Memref sig .tc .vmem S48x512 .bf16 :=
  (vM.slice (Rect.unit (s := S8x48x512) ![k.val, 0, 0] S1x48x512.size (slot_inb k)) (fun _ => rfl)).squeeze S48x512 squeezes_S1x48x512_S48x512

/-- The elements of slot `k`. -/
def slot (k : Fin 8) : Finset S8x48x512.Idx := (Rect.unit (s := S8x48x512) ![k.val, 0, 0] S1x48x512.size (slot_inb k)).set

theorem mem_slot {k : Fin 8} {I : S8x48x512.Idx} : I ∈ slot k ↔ (I 0 : Fin 8) = k := by
  unfold slot
  rw [Rect.mem_set_unit]
  constructor
  · intro h
    have h0 := h 0
    have e1 : (![k.val, 0, 0] : Fin 3 → ℕ) 0 = k.val := rfl
    have e2 : S1x48x512.size 0 = 1 := rfl
    rw [e1, e2] at h0
    exact Fin.ext (by omega)
  · intro h a
    have h0 : (I 0).val = k.val := congrArg Fin.val h
    match a with
    | ⟨0, _⟩ => exact ⟨le_of_eq h0.symm, by show (I 0).val < k.val + 1; omega⟩
    | ⟨1, _⟩ => exact ⟨Nat.zero_le _, by have : (I 1).val < 48 := (I 1).isLt; show (I 1).val < 0 + 48; omega⟩
    | ⟨2, _⟩ => exact ⟨Nat.zero_le _, by have : (I 2).val < 512 := (I 2).isLt; show (I 2).val < 0 + 512; omega⟩

theorem sSlot_set (k : Fin 8) : (sSlot k).view.set = slot k := by
  show ((View.whole cc0_scratch2).slice _ |>.reshape _ _).set = _
  rw [View.set_reshape]; exact View.set_slice_whole _ _
theorem vSlot_set (k : Fin 8) : (vSlot k).view.set = slot k := by
  show ((View.whole cc0_scratch3).slice _ |>.reshape _ _).set = _
  rw [View.set_reshape]; exact View.set_slice_whole _ _

theorem slot_disjoint (k k' : Fin 8) (h : k ≠ k') : Disjoint (slot k) (slot k') :=
  Finset.disjoint_left.mpr fun I h1 h2 => h ((mem_slot.mp h1).symm.trans (mem_slot.mp h2))
theorem slot_cover : Finset.univ.biUnion slot = (Finset.univ : Finset S8x48x512.Idx) :=
  Finset.eq_univ_iff_forall.mpr fun I => Finset.mem_biUnion.mpr ⟨(I 0 : Fin 8), Finset.mem_univ _, mem_slot.mpr rfl⟩

/-- The copy of a slot writes what the source slot holds. -/
theorem landed_eq (k : Fin 8) (fd fs : Vec F S8x48x512 .bf16) (I : S8x48x512.Idx) (hI : I ∈ slot k) :
    (vSlot k).view.write (Elt F) fd ((sSlot k).view.read (Elt F) fs) Finset.univ I = fs I := by
  have hI' : I ∈ (vSlot k).view.set := by rw [vSlot_set]; exact hI
  obtain ⟨x, -, rfl⟩ := Finset.mem_map.mp hI'
  rw [View.write_emb_of_mem _ _ (Finset.mem_univ x), View.read_apply]
  rfl

/-! ## Pieces of the two buffers -/

def sPts (c : Dev nD) (k : Fin 8) (f : Vec F S8x48x512 .bf16) : sProp 𝕄 :=
  (((c : Thread nD τ).loc cc0_scratch2) ↦[slot k]{fullShare} f)
def vPts (c : Dev nD) (k : Fin 8) (f : Vec F S8x48x512 .bf16) : sProp 𝕄 :=
  (((c : Thread nD τ).loc cc0_scratch3) ↦[slot k]{fullShare} f)

omit [FloatOps F] in
instance sPts_storable (c : Dev nD) (k) (f) : BI.Storable (upEmb : UEmb _ 𝕄) (sPts (F := F) c k f) := by unfold sPts; infer_instance
omit [FloatOps F] in
instance vPts_storable (c : Dev nD) (k) (f) : BI.Storable (upEmb : UEmb _ 𝕄) (vPts (F := F) c k f) := by unfold vPts; infer_instance

omit [FloatOps F] in
theorem sPts_congr (c : Dev nD) (k : Fin 8) {f g : Vec F S8x48x512 .bf16} (h : ∀ I : S8x48x512.Idx, (I 0 : Fin 8) = k → f I = g I) :
    sPts c k f = sPts c k g := by
  unfold sPts; exact pointsTo_congr fun I hI => h I (mem_slot.mp hI)
omit [FloatOps F] in
theorem vPts_congr (c : Dev nD) (k : Fin 8) {f g : Vec F S8x48x512 .bf16} (h : ∀ I : S8x48x512.Idx, (I 0 : Fin 8) = k → f I = g I) :
    vPts c k f = vPts c k g := by
  unfold vPts; exact pointsTo_congr fun I hI => h I (mem_slot.mp hI)

omit [FloatOps F] in
theorem sPts_split (c : Dev nD) (f : Vec F S8x48x512 .bf16) :
    ((((c : Thread nD τ).loc cc0_scratch2) ↦{fullShare} f) : sProp 𝕄) = bigSep Finset.univ fun k => sPts c k f := by
  unfold sPts; exact Ring.pointsTo_blocks (ℓ := ((c : Thread nD τ).loc cc0_scratch2)) slot slot_disjoint slot_cover f
omit [FloatOps F] in
theorem vPts_split (c : Dev nD) (f : Vec F S8x48x512 .bf16) :
    ((((c : Thread nD τ).loc cc0_scratch3) ↦{fullShare} f) : sProp 𝕄) = bigSep Finset.univ fun k => vPts c k f := by
  unfold vPts; exact Ring.pointsTo_blocks (ℓ := ((c : Thread nD τ).loc cc0_scratch3)) slot slot_disjoint slot_cover f

omit [FloatOps F] in
theorem bigSep_fin8 (Φ : Fin 8 → sProp 𝕄) : bigSep Finset.univ Φ = iprop(Φ 0 ∗ Φ 1 ∗ Φ 2 ∗ Φ 3 ∗ Φ 4 ∗ Φ 5 ∗ Φ 6 ∗ Φ 7) :=
  bigSep_univ_eq_bigSepL [0, 1, 2, 3, 4, 5, 6, 7] (by decide) (by decide) Φ
omit [FloatOps F] in
theorem bigSep_fin7 (Φ : Fin 7 → sProp 𝕄) : bigSep Finset.univ Φ = iprop(Φ 0 ∗ Φ 1 ∗ Φ 2 ∗ Φ 3 ∗ Φ 4 ∗ Φ 5 ∗ Φ 6) :=
  bigSep_univ_eq_bigSepL [0, 1, 2, 3, 4, 5, 6] (by decide) (by decide) Φ

/-! ## The schedule -/

abbrev N : ℕ := (vSlot 0).view.dmaCredit
theorem N_pos : 0 < N := View.dmaCredit_pos _ (by decide)
theorem amount_vSlot (i : Fin 7) : (vSlot i.succ).view.amount (.dma (recvS i)) = N := rfl
theorem credit_vSlot (k : Fin 8) : (vSlot k).view.dmaCredit = N := rfl
theorem credit_sSlot (k : Fin 8) : (sSlot k).view.dmaCredit = N := rfl

variable (S : Dev nD → Vec F S8x48x512 .bf16)

/-- What `c`'s receive buffer holds once every copy has landed. -/
def landed (c : Dev nD) : Vec F S8x48x512 .bf16 := fun I => S (src c (I 0 : Fin 8)) I

/-- With duty `j` of its entry semaphore `c` gets the slot its copy number `j + 1` goes to. -/
def barPay (c : Dev nD) (j : Fin 7) : sProp 𝕄 :=
  iprop((∃ f, vPts (up j c) j.succ f) ∗ reached ER (recvCell (up j c) j) 0)
def recvPay (c : Dev nD) (i : Fin 7) : sProp 𝕄 := vPts c i.succ (landed S c)
def sendPay (c : Dev nD) (i : Fin 7) : sProp 𝕄 := sPts c i.succ (S c)

def semPay (c : Dev nD) (s : SemLoc sig) (j : Fin 7) : sProp 𝕄 :=
  match s with
  | .reg _ => barPay c j
  | .dma q =>
    if h : 4 ≤ q.val ∧ q.val < 11 then sendPay S c ⟨q.val - 4, by omega⟩
    else if h : 12 ≤ q.val ∧ q.val < 19 then recvPay S c ⟨q.val - 12, by omega⟩
    else iprop(emp)

def semDuties (s : SemLoc sig) : Finset (Fin 7) :=
  match s with
  | .reg _ => Finset.univ
  | .dma q => if (4 ≤ q.val ∧ q.val < 11) ∨ (12 ≤ q.val ∧ q.val < 19) then {0} else ∅

def semAmount (s : SemLoc sig) : ℕ :=
  match s with
  | .reg _ => 1
  | .dma _ => N

/-- One round: seven unit duties on an entry semaphore, one duty of a slot's credit on each copy semaphore. -/
def rd : Rounds.Schedule (GSem nD τ sig) (Fin 7) 𝕄 where
  duties g r := if r = 0 ∧ g.1.2 = .tc then semDuties g.2 else ∅
  unitless _ := False
  amount g _ _ := semAmount g.2
  payload g _ d := semPay S g.1.1 g.2 d
  amount_pos g _ _ _ := by
    unfold semAmount
    split
    · exact Nat.one_pos
    · exact N_pos

omit [FloatOps F] in
instance rd_payload_storable (g : GSem nD τ sig) (r : ℕ) (d : Fin 7) :
    BI.Storable (upEmb : UEmb _ 𝕄) ((rd (F := F) S).payload g r d) := by
  show BI.Storable upEmb (semPay S g.1.1 g.2 d)
  unfold semPay barPay sendPay recvPay
  (repeat' split) <;> infer_instance

section Sched
variable (c : Dev nD) (i : Fin 7)

theorem sendS_cond : 4 ≤ (sendS i).val ∧ (sendS i).val < 11 := by revert i; decide
theorem recvS_cond : 12 ≤ (recvS i).val ∧ (recvS i).val < 19 := by revert i; decide
theorem recvS_ncond : ¬ (4 ≤ (recvS i).val ∧ (recvS i).val < 11) := by revert i; decide

omit [FloatOps F] in
theorem duties_bar : (rd (F := F) S).duties (barCell c) 0 = Finset.univ := by
  dsimp only [rd]; rw [if_pos ⟨rfl, rfl⟩]; rfl
omit [FloatOps F] in
theorem duties_send : (rd (F := F) S).duties (sendCell c i) 0 = {0} := by
  dsimp only [rd]; rw [if_pos ⟨rfl, rfl⟩]; exact if_pos (Or.inl (sendS_cond i))
omit [FloatOps F] in
theorem duties_recv : (rd (F := F) S).duties (recvCell c i) 0 = {0} := by
  dsimp only [rd]; rw [if_pos ⟨rfl, rfl⟩]; exact if_pos (Or.inr (recvS_cond i))
omit [FloatOps F] in
theorem duties_later (g : GSem nD τ sig) : ∀ r, 1 ≤ r → (rd (F := F) S).duties g r = ∅ :=
  fun r hr => if_neg fun h => by have := h.1; omega

omit [FloatOps F] in
theorem expect_bar : (rd (F := F) S).expect (barCell c) 0 = 7 := by
  unfold Schedule.expect Schedule.amountOf
  rw [duties_bar]; rfl
omit [FloatOps F] in
theorem expect_send : (rd (F := F) S).expect (sendCell c i) 0 = N := by
  unfold Schedule.expect Schedule.amountOf
  rw [duties_send, Finset.sum_singleton]; rfl
omit [FloatOps F] in
theorem expect_recv : (rd (F := F) S).expect (recvCell c i) 0 = N := by
  unfold Schedule.expect Schedule.amountOf
  rw [duties_recv, Finset.sum_singleton]; rfl

omit [FloatOps F] in
theorem payload_bar (j : Fin 7) : (rd (F := F) S).payload (barCell c) 0 j = barPay c j := rfl
omit [FloatOps F] in
theorem payload_send (j : Fin 7) : (rd (F := F) S).payload (sendCell c i) 0 j = sendPay S c i := by
  show semPay S c (.dma (sendS i)) j = _
  unfold semPay; dsimp only
  rw [dif_pos (sendS_cond i)]
  rfl
omit [FloatOps F] in
theorem payload_recv (j : Fin 7) : (rd (F := F) S).payload (recvCell c i) 0 j = recvPay S c i := by
  show semPay S c (.dma (recvS i)) j = _
  unfold semPay; dsimp only
  rw [dif_neg (recvS_ncond i), dif_pos (recvS_cond i)]
  rfl

omit [FloatOps F] in
theorem rest_bar : bigSep ((rd (F := F) S).duties (barCell c) 0 \ ∅) (fun d => (rd (F := F) S).payload (barCell c) 0 d)
    = bigSep Finset.univ fun j => barPay c j := by
  rw [Finset.sdiff_empty, duties_bar]; rfl
omit [FloatOps F] in
theorem rest_send : bigSep ((rd (F := F) S).duties (sendCell c i) 0 \ ∅) (fun d => (rd (F := F) S).payload (sendCell c i) 0 d)
    = sendPay S c i := by
  rw [Finset.sdiff_empty, duties_send, bigSep_singleton, payload_send]
omit [FloatOps F] in
theorem rest_recv : bigSep ((rd (F := F) S).duties (recvCell c i) 0 \ ∅) (fun d => (rd (F := F) S).payload (recvCell c i) 0 d)
    = recvPay S c i := by
  rw [Finset.sdiff_empty, duties_recv, bigSep_singleton, payload_recv]

end Sched

/-! ## What a device owes, and the levels -/

def owedR (c : Dev nD) (i : Fin 7) : CellTallies nD τ sig Unit := tallyAt (recvCell (up i c) i) () N
def owedB (c : Dev nD) (j : Fin 7) : CellTallies nD τ sig Unit := tallyAt (barCell (up j c)) () 1

/-- Owed when the first `a` copies and the first `b` entry signals are out. -/
def owed (c : Dev nD) (a b : ℕ) : CellTallies nD τ sig Unit :=
  (∑ i ∈ Finset.univ.filter (fun i : Fin 7 => a ≤ i.val), owedR c i) + ∑ j ∈ Finset.univ.filter (fun j : Fin 7 => b ≤ j.val), owedB c j

theorem sum_peel {M : Type} [AddCommMonoid M] (f : Fin 7 → M) (j : Fin 7) :
    (∑ i ∈ Finset.univ.filter (fun i : Fin 7 => j.val ≤ i.val), f i)
      = (∑ i ∈ Finset.univ.filter (fun i : Fin 7 => j.val + 1 ≤ i.val), f i) + f j := by
  have h : Finset.univ.filter (fun i : Fin 7 => j.val ≤ i.val) = insert j (Finset.univ.filter (fun i : Fin 7 => j.val + 1 ≤ i.val)) := by
    revert j; decide
  rw [h, Finset.sum_insert (by simp), add_comm]

theorem owed_signal (c : Dev nD) (a : ℕ) (j : Fin 7) : owed c a j.val = owed c a (j.val + 1) + tallyAt (barCell (up j c)) () 1 := by
  unfold owed; rw [sum_peel (owedB c) j, ← add_assoc]; rfl
theorem owed_send (c : Dev nD) (i : Fin 7) (b : ℕ) : owed c i.val b = owed c (i.val + 1) b + tallyAt (recvCell (up i c) i) () N := by
  unfold owed; rw [sum_peel (owedR c) i, add_right_comm]; rfl
theorem owed_done (c : Dev nD) : owed c 7 7 = 0 := by
  unfold owed
  have h : Finset.univ.filter (fun i : Fin 7 => 7 ≤ i.val) = ∅ := by decide
  rw [h, Finset.sum_empty, Finset.sum_empty, add_zero]

def L (g : GSem nD τ sig) : Finset Unit := if g.1.2 = .tc then {()} else ∅
/-- Entry semaphores at 1, arrivals at 2, everything else at 0. -/
def lv (g : GSem nD τ sig) (_ : Unit) : ℕ :=
  match g.2 with
  | .reg _ => 1
  | .dma q => if 12 ≤ q.val ∧ q.val < 19 then 2 else 0

theorem L_of_ne (g : GSem nD τ sig) (h : g.1.2 ≠ .tc) : L g = ∅ := if_neg h
theorem L_tc (c : Dev nD) (sm : SemLoc sig) : L ((c : Thread nD τ), sm) = {()} := if_pos rfl

theorem sum_tally_apply (s : Finset (Fin 7)) (f : Fin 7 → CellTallies nD τ sig Unit) (g : GSem nD τ sig) (u : Unit) :
    (∑ i ∈ s, f i) g u = ∑ i ∈ s, f i g u := by
  rw [Finset.sum_apply, Finsupp.finset_sum_apply]

theorem owed_apply (c : Dev nD) (a b : ℕ) (g : GSem nD τ sig) (u : Unit) :
    owed c a b g u = (∑ i ∈ Finset.univ.filter (fun i : Fin 7 => a ≤ i.val), owedR c i g u)
      + ∑ j ∈ Finset.univ.filter (fun j : Fin 7 => b ≤ j.val), owedB c j g u := by
  unfold owed
  rw [Pi.add_apply, Finsupp.add_apply, sum_tally_apply, sum_tally_apply]

theorem owed_pos {c : Dev nD} {a b : ℕ} {g : GSem nD τ sig} {u : Unit} (h : 0 < owed c a b g u) :
    (∃ i, g = recvCell (up i c) i) ∨ (∃ j : Fin 7, b ≤ j.val ∧ g = barCell (up j c)) := by
  rw [owed_apply] at h
  by_contra hn
  rw [not_or] at hn
  rw [Finset.sum_eq_zero, Finset.sum_eq_zero] at h
  · exact Nat.lt_irrefl 0 h
  · intro j hj
    unfold owedB
    rw [tallyAt_apply, if_neg]
    exact fun h' => hn.2 ⟨j, (Finset.mem_filter.mp hj).2, h'.1⟩
  · intro i _
    unfold owedR
    rw [tallyAt_apply, if_neg]
    exact fun h' => hn.1 ⟨i, h'.1⟩

theorem lv_recv (c : Dev nD) (i : Fin 7) (u : Unit) : lv (recvCell c i) u = 2 := if_pos (recvS_cond i)
theorem lv_bar (c : Dev nD) (u : Unit) : lv (barCell c) u = 1 := rfl

omit [FloatOps F] in
/-- A staging semaphore lies below everything a device owes. -/
theorem mayWait_stage (c : Dev nD) (q : DmaSem sig) (hq : ¬ (12 ≤ q.val ∧ q.val < 19)) (O : CellTallies nD τ sig Unit) (hO : O = owed c 0 0 ∨ O = 0) :
    (levAts L lv : sProp 𝕄) ⊢ MayWait (c : Thread nD τ) (.dma q) () O := by
  rcases hO with rfl | rfl
  · refine MayOwe.of_cut (L := L) (lev := lv) 0 (fun p hp => by rw [Finset.mem_singleton.mp hp, L_tc]; exact Finset.mem_singleton_self _)
      (fun g u hg => by rcases owed_pos hg with ⟨i, rfl⟩ | ⟨j, -, rfl⟩ <;> exact Finset.mem_singleton_self _)
      (fun p hp => by rw [Finset.mem_singleton.mp hp]; exact le_of_eq (if_neg hq))
      (fun g u hg => by
        rcases owed_pos hg with ⟨i, rfl⟩ | ⟨j, -, rfl⟩
        · rw [lv_recv]; decide
        · rw [lv_bar]; decide)
  · rw [MayWait_zero]; iintro -; iempintro

omit [FloatOps F] in
/-- At its entry wait a device owes arrivals only. -/
theorem mayWait_bar (c : Dev nD) : (levAts L lv : sProp 𝕄) ⊢ MayWait (c : Thread nD τ) (.reg barS) () (owed c 0 7) :=
  MayOwe.of_cut (L := L) (lev := lv) 1 (fun p hp => by rw [Finset.mem_singleton.mp hp, L_tc]; exact Finset.mem_singleton_self _)
    (fun g u hg => by rcases owed_pos hg with ⟨i, rfl⟩ | ⟨j, -, rfl⟩ <;> exact Finset.mem_singleton_self _)
    (fun p hp => by rw [Finset.mem_singleton.mp hp]; exact le_of_eq (lv_bar c ()))
    (fun g u hg => by
      rcases owed_pos hg with ⟨i, rfl⟩ | ⟨j, hj, rfl⟩
      · rw [lv_recv]; decide
      · exact absurd hj (by have := j.isLt; omega))

/-! ## The cells of the exchange, numbered -/

/-- Entry semaphore, seven send semaphores, eight arrival semaphores (the first of which is never used). -/
def csem (k : Fin 16) : SemLoc sig :=
  if k.val = 0 then .reg barS else .dma ⟨k.val + 3, by have := k.isLt; show k.val + 3 < 19; omega⟩
abbrev kcell (ck : Dev nD × Fin 16) : GSem nD τ sig := ((ck.1 : Thread nD τ), csem ck.2)

set_option backward.proofsInPublic true in
abbrev sIx (i : Fin 7) : Fin 16 := ⟨i.val + 1, by have := i.isLt; omega⟩
set_option backward.proofsInPublic true in
abbrev vIx (i : Fin 7) : Fin 16 := ⟨i.val + 9, by have := i.isLt; omega⟩
theorem kcell_bar (c : Dev nD) : kcell (c, 0) = barCell c := rfl
theorem csem_send (i : Fin 7) : csem (sIx i) = .dma (sendS i) := by revert i; decide
theorem csem_recv (i : Fin 7) : csem (vIx i) = .dma (recvS i) := by revert i; decide
theorem kcell_send (c : Dev nD) (i : Fin 7) : kcell (c, sIx i) = sendCell c i := by
  show ((c : Thread nD τ), csem (sIx i)) = _; rw [csem_send]
theorem kcell_recv (c : Dev nD) (i : Fin 7) : kcell (c, vIx i) = recvCell c i := by
  show ((c : Thread nD τ), csem (vIx i)) = _; rw [csem_recv]

/-- What everyone knows: every cell's invariant, under the names `K`, and that it has reached its round. -/
def records (K : Dev nD × Fin 16 → ℕ) : sProp 𝕄 :=
  iprop((bigSep Finset.univ fun ck : Dev nD × Fin 16 => cellInv ER (rd S) (K ck) (kcell ck))
    ∗ bigSep Finset.univ fun ck : Dev nD × Fin 16 => reached ER (kcell ck) 0)

omit [FloatOps F] in
instance records_persistent (K : Dev nD × Fin 16 → ℕ) : BI.Persistent (records S K) := by unfold records; infer_instance

omit [FloatOps F] in
theorem inv_all (K : Dev nD × Fin 16 → ℕ) (ck : Dev nD × Fin 16) :
    (bigSep Finset.univ fun ck : Dev nD × Fin 16 => (cellInv ER (rd S) (K ck) (kcell ck) : sProp 𝕄)) ⊢ cellInv ER (rd S) (K ck) (kcell ck) :=
  bigSep_elim (Finset.mem_univ ck)
omit [FloatOps F] in
theorem reached_all (ck : Dev nD × Fin 16) :
    (bigSep Finset.univ fun ck : Dev nD × Fin 16 => (reached ER (kcell ck) 0 : sProp 𝕄)) ⊢ reached ER (kcell ck) 0 :=
  bigSep_elim (Finset.mem_univ ck)
omit [FloatOps F] in
theorem inv_at (K : Dev nD × Fin 16 → ℕ) (ck : Dev nD × Fin 16) : records S K ⊢ cellInv ER (rd S) (K ck) (kcell ck) := by
  unfold records
  iintro ⟨#HI, -⟩
  iapply (inv_all S K ck); iexact HI
omit [FloatOps F] in
theorem reached_at (K : Dev nD × Fin 16 → ℕ) (ck : Dev nD × Fin 16) : records S K ⊢ reached ER (kcell ck) 0 := by
  unfold records
  iintro ⟨-, #HR⟩
  iapply (reached_all (F := F) ck); iexact HR

omit [FloatOps F] in
theorem inv_bar (K : Dev nD × Fin 16 → ℕ) (c : Dev nD) : records S K ⊢ cellInv ER (rd S) (K (c, 0)) (barCell c) := inv_at S K (c, 0)
omit [FloatOps F] in
theorem inv_send (K : Dev nD × Fin 16 → ℕ) (c : Dev nD) (i : Fin 7) : records S K ⊢ cellInv ER (rd S) (K (c, sIx i)) (sendCell c i) := by
  rw [← kcell_send]; exact inv_at S K (c, sIx i)
omit [FloatOps F] in
theorem inv_recv (K : Dev nD × Fin 16 → ℕ) (c : Dev nD) (i : Fin 7) : records S K ⊢ cellInv ER (rd S) (K (c, vIx i)) (recvCell c i) := by
  rw [← kcell_recv]; exact inv_at S K (c, vIx i)
omit [FloatOps F] in
theorem reached_bar (K : Dev nD × Fin 16 → ℕ) (c : Dev nD) : records S K ⊢ reached ER (barCell c) 0 := reached_at S K (c, 0)
omit [FloatOps F] in
theorem reached_send (K : Dev nD × Fin 16 → ℕ) (c : Dev nD) (i : Fin 7) : records S K ⊢ reached ER (sendCell c i) 0 := by
  rw [← kcell_send]; exact reached_at S K (c, sIx i)
omit [FloatOps F] in
theorem reached_recv (K : Dev nD × Fin 16 → ℕ) (c : Dev nD) (i : Fin 7) : records S K ⊢ reached ER (recvCell c i) 0 := by
  rw [← kcell_recv]; exact reached_at S K (c, vIx i)

end Cert.KernelIdeal.Run

end
-- ==== Proof.Steps.lean ====
/-
One rule per kind of step the body takes: a store into a slot, a signal on an entry semaphore, the entry wait, a
copy sent, an arrival awaited, a copy's return awaited.
-/
module

public import proofs.«01_k».proof.Proof.Proto
public import Idealize.ShloMosaic.Lib.Pipeline.ValueKit

@[expose] public section

noncomputable section

namespace Cert.KernelIdeal.Run

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-- Running a piece of the body on device `c`. -/
abbrev wpc (c : Dev nD) {α : Type} (p : Prog (TpuEff nD τ sig (Elt F) Λ₀ .tc) α) (Q : α → sProp 𝕄) : sProp 𝕄 :=
  wp frame (wpE (defs₀ (F := F)) 𝒱₀ (c : Thread nD τ) none) Set.univ p Q

variable (S : Dev nD → Vec F S8x48x512 .bf16) (K : Dev nD × Fin 16 → ℕ)

/-! ## Stores into slots -/

abbrev slotRect (k : Fin 8) : Rect S8x48x512 := Rect.unit (s := S8x48x512) ![k.val, 0, 0] S1x48x512.size (slot_inb k)

abbrev under (I : S8x48x512.Idx) : S1x48x512.Idx :=
  fun | ⟨0, _⟩ => (0 : Fin 1) | ⟨1, _⟩ => (I 1 : Fin 48) | ⟨2, _⟩ => (I 2 : Fin 512)

theorem sAccess_set (k : Fin 8) : (sM.access (slotRect k)).set = slot k := View.set_slice_whole _ _
theorem vAccess_set (k : Fin 8) : (vM.access (slotRect k)).set = slot k := View.set_slice_whole _ _

theorem slotRect_emb (k : Fin 8) (x : S1x48x512.Idx) : under ((slotRect k).emb x) = x := by
  funext a
  match a with
  | ⟨0, _⟩ => exact Subsingleton.elim (α := Fin 1) _ _
  | ⟨1, _⟩ => exact Fin.ext ((ValueKit.rect_emb_unit_val (s := S8x48x512) ![k.val, 0, 0] S1x48x512.size (slot_inb k) x 1).trans (Nat.zero_add _))
  | ⟨2, _⟩ => exact Fin.ext ((ValueKit.rect_emb_unit_val (s := S8x48x512) ![k.val, 0, 0] S1x48x512.size (slot_inb k) x 2).trans (Nat.zero_add _))

theorem write_sSlot (k : Fin 8) (f : Vec F S8x48x512 .bf16) (w : Vec F S1x48x512 .bf16) (I : S8x48x512.Idx) (hI : (I 0 : Fin 8) = k) :
    (sM.access (slotRect k)).write (Elt F) f w Finset.univ I = w (under I) := by
  have hI' : I ∈ (sM.access (slotRect k)).set := by rw [sAccess_set]; exact mem_slot.mpr hI
  obtain ⟨x, -, rfl⟩ := Finset.mem_map.mp hI'
  rw [View.write_emb_of_mem _ _ (Finset.mem_univ x)]
  exact (congrArg w (slotRect_emb k x)).symm
theorem write_vSlot (k : Fin 8) (f : Vec F S8x48x512 .bf16) (w : Vec F S1x48x512 .bf16) (I : S8x48x512.Idx) (hI : (I 0 : Fin 8) = k) :
    (vM.access (slotRect k)).write (Elt F) f w Finset.univ I = w (under I) := by
  have hI' : I ∈ (vM.access (slotRect k)).set := by rw [vAccess_set]; exact mem_slot.mpr hI
  obtain ⟨x, -, rfl⟩ := Finset.mem_map.mp hI'
  rw [View.write_emb_of_mem _ _ (Finset.mem_univ x)]
  exact (congrArg w (slotRect_emb k x)).symm

theorem read_sSlot (k : Fin 8) (f : Vec F S8x48x512 .bf16) (x : S1x48x512.Idx) :
    sM.view.readAt (Elt F) (slotRect k).toLoadRect f x = f ((slotRect k).emb x) := rfl

section Ops
variable {α : Type}

theorem load_s {Q : α → sProp 𝕄} (c : Dev nD) (k : Fin 8) (f : Vec F S8x48x512 .bf16) {hl : sM.view.LoadsAt (slotRect k).toLoadRect}
    {kk : ((slotRect k).toLoadRect.shape.Idx → Elt F .bf16) → Prog (TpuEff nD τ sig (Elt F) Λ₀ .tc) α} :
    sPts c k f ⊢ iprop((sPts c k f -∗ wpc (F := F) c (kk (sM.view.readAt (Elt F) (slotRect k).toLoadRect f)) Q)
      -∗ wpc (F := F) c (.op (.load sM (slotRect k).toLoadRect hl) kk) Q) := by
  unfold sPts
  exact wp_load_rect 𝒱₀ (c : Thread nD τ) none Set.univ (m := sM) (r := slotRect k) (Finset.subset_of_eq (sAccess_set k))

theorem load_v {Q : α → sProp 𝕄} (c : Dev nD) (k : Fin 8) (f : Vec F S8x48x512 .bf16) {hl : vM.view.LoadsAt (slotRect k).toLoadRect}
    {kk : ((slotRect k).toLoadRect.shape.Idx → Elt F .bf16) → Prog (TpuEff nD τ sig (Elt F) Λ₀ .tc) α} :
    vPts c k f ⊢ iprop((vPts c k f -∗ wpc (F := F) c (kk (vM.view.readAt (Elt F) (slotRect k).toLoadRect f)) Q)
      -∗ wpc (F := F) c (.op (.load vM (slotRect k).toLoadRect hl) kk) Q) := by
  unfold vPts
  exact wp_load_rect 𝒱₀ (c : Thread nD τ) none Set.univ (m := vM) (r := slotRect k) (Finset.subset_of_eq (vAccess_set k))

theorem store_s {Q : α → sProp 𝕄} (c : Dev nD) (k : Fin 8) (f V : Vec F S8x48x512 .bf16) {w : Vec F S1x48x512 .bf16}
    (hw : ∀ I : S8x48x512.Idx, (I 0 : Fin 8) = k → w (under I) = V I)
    {hx : (sM.access (slotRect k)).Stores Finset.univ} {hm : (Finset.univ : Finset (slotRect k).shape.Idx) = Finset.univ ∨ ∀ a, (slotRect k).stride a = 1}
    {kk : PUnit → Prog (TpuEff nD τ sig (Elt F) Λ₀ .tc) α} :
    sPts c k f ⊢ iprop((sPts c k V -∗ wpc (F := F) c (kk ⟨⟩) Q) -∗ wpc (F := F) c (.op (.store sM (slotRect k) w Finset.univ hx hm) kk) Q) := by
  rw [← sPts_congr c k (f := (sM.access (slotRect k)).write (Elt F) f w Finset.univ) (g := V)
    (fun I hI => (write_sSlot k f w I hI).trans (hw I hI))]
  unfold sPts
  exact wp_store 𝒱₀ (c : Thread nD τ) none Set.univ (m := sM) (r := slotRect k) (Mk := Finset.univ) (by
    rw [View.setOn_univ, sAccess_set])

theorem store_v {Q : α → sProp 𝕄} (c : Dev nD) (k : Fin 8) (f V : Vec F S8x48x512 .bf16) {w : Vec F S1x48x512 .bf16}
    (hw : ∀ I : S8x48x512.Idx, (I 0 : Fin 8) = k → w (under I) = V I)
    {hx : (vM.access (slotRect k)).Stores Finset.univ} {hm : (Finset.univ : Finset (slotRect k).shape.Idx) = Finset.univ ∨ ∀ a, (slotRect k).stride a = 1}
    {kk : PUnit → Prog (TpuEff nD τ sig (Elt F) Λ₀ .tc) α} :
    vPts c k f ⊢ iprop((vPts c k V -∗ wpc (F := F) c (kk ⟨⟩) Q) -∗ wpc (F := F) c (.op (.store vM (slotRect k) w Finset.univ hx hm) kk) Q) := by
  rw [← vPts_congr c k (f := (vM.access (slotRect k)).write (Elt F) f w Finset.univ) (g := V)
    (fun I hI => (write_vSlot k f w I hI).trans (hw I hI))]
  unfold vPts
  exact wp_store 𝒱₀ (c : Thread nD τ) none Set.univ (m := vM) (r := slotRect k) (Mk := Finset.univ) (by
    rw [View.setOn_univ, vAccess_set])

/-! ## The exchange -/

/-- Signal `j` of `c`, to the device `j + 1` places on: with it goes the slot that device copies into. -/
theorem signal_step {Q : α → sProp 𝕄} (c n : Dev nD) (j : Fin 7) (hn : n = up j c) (W : Waits sig Unit) {b b' : ℕ} (hb : b = j.val) (hb' : b' = j.val + 1)
    {k : PUnit → Prog (TpuEff nD τ sig (Elt F) Λ₀ .tc) α} {one : ℕ} (h1 : one = 1) :
    iprop(records S K ∗ owes (c : Thread nD τ) (owed c 0 b) W ∗ dutyTok ER (barCell (up j c)) 0 j.rev ∗ (∃ f, vPts c j.rev.succ f))
      ⊢ iprop((owes (c : Thread nD τ) (owed c 0 b') W -∗ wpc (F := F) c (k ⟨⟩) Q)
          -∗ wpc (F := F) c (.op (.semSignal (n : Thread nD τ) barS one) k) Q) := by
  subst hn hb hb' h1
  iintro ⟨#HR, HO, Ht, Hv⟩ Hk
  iapply (Rounds.wp_signal 𝒱₀ ER (rd S) (c : Thread nD τ) none (dst := (up j c : Thread nD τ)) (κ := K (up j c, 0)) (r := 0)
      (d := j.rev) (by rw [duties_bar]; exact Finset.mem_univ _) rfl () (owed c 0 (j.val + 1)) (owed_signal c 0 j)) $$ [HO Ht Hv]
  · isplitr; · iapply (inv_bar S K (up j c)); iexact HR
    isplitl [HO]; · iexact HO
    isplitl [Ht]; · iexact Ht
    isplitl [Hv]
    · rw [payload_bar]; unfold barPay; rw [up_rev]
      isplitl [Hv]; · iexact Hv
      iapply (reached_recv S K c j.rev); iexact HR
    · iapply (reached_bar S K (up j c)); iexact HR
  iexact Hk

theorem entry_handed (c : Dev nD) : bigSep Finset.univ (barPay (F := F) c)
    ⊢ bigSep Finset.univ fun j => iprop(∃ f, vPts (F := F) (up j c) j.succ f) := by
  unfold barPay
  rw [bigSep_sep']
  iintro ⟨H, -⟩
  iexact H

/-- The entry wait: every other device's slot for `c`'s copy comes with it. -/
theorem entry_step {Q : α → sProp 𝕄} (c : Dev nD) (W : Waits sig Unit) {k : PUnit → Prog (TpuEff nD τ sig (Elt F) Λ₀ .tc) α} {seven : ℕ} (h7 : seven = 7) :
    iprop(records S K ∗ levAts L lv ∗ cred (tallyAt (barCell c) () 7) ∗ owes (c : Thread nD τ) (owed c 0 7) W ∗ atPos ER (barCell c) 0 ∅ 0)
      ⊢ iprop(((owes (c : Thread nD τ) (owed c 0 7) (insert (SemLoc.reg barS, ()) W) ∗ atPos ER (barCell c) 1 ∅ 0
              ∗ bigSep Finset.univ fun j => iprop(∃ f, vPts (F := F) (up j c) j.succ f)) -∗ wpc (F := F) c (k ⟨⟩) Q)
          -∗ wpc (F := F) c (.op (.semWait barS seven) k) Q) := by
  subst h7
  iintro ⟨#HR, #Hl, Hc, HO, Hat⟩ Hk
  iapply (Rounds.wp_wait_rest_token 𝒱₀ ER (rd S) (c : Thread nD τ) none (κ := K (c, 0))
      (wpE_semWait_eq 𝒱₀ (c : Thread nD τ) none Set.univ) (Set.mem_univ _) () (O := owed c 0 7) (W := W) (R := 0) (m := 0) (T := ∅)
      (by rw [expect_bar])) $$ [Hc HO Hat]
  · isplitr; · iapply (inv_bar S K c); iexact HR
    isplitl [Hc]; · iexact Hc
    isplitl [HO]; · iexact HO
    isplitr; · iapply (mayWait_bar c); iexact Hl
    iexact Hat
  iintro ⟨HO, Hat, -, Hpay⟩
  ihave Hp := ((Entails.of_eq (rest_bar S c)).trans (entry_handed c)) $$ Hpay
  iapply Hk
  isplitl [HO]; · iexact HO
  isplitl [Hat]; · iexact Hat
  iexact Hp

/-- Copy `i` of `c`: slot `i + 1` to the device `i + 1` places on. -/
theorem send_step {Q : α → sProp 𝕄} (c n : Dev nD) (i : Fin 7) {k : Fin 8} (hk : k = i.succ) (hn : n = up i c) (W : Waits sig Unit) {a a' : ℕ} (ha : a = i.val) (ha' : a' = i.val + 1)
    {hsc : (vSlot k : Memref sig (Dev.tc n : Thread nD τ).2.kind .vmem S48x512 .bf16).view.ref.isScScratch = false}
    {hsrc : (sSlot k).view.WordExact} {hdst : (vSlot k).view.WordExact}
    {hsem : DmaTarget.Typed .vmem (.dma (recvS i)) (.remote (Dev.tc n : Thread nD τ) (vSlot k) (.dma (sendS i)) hsc)}
    {kk : PUnit → Prog (TpuEff nD τ sig (Elt F) Λ₀ .tc) α} :
    iprop(records S K ∗ sPts c i.succ (S c) ∗ (∃ f, vPts (up i c) i.succ f) ∗ owes (c : Thread nD τ) (owed c a 7) W
        ∗ dutyTok ER (sendCell c i) 0 0 ∗ dutyTok ER (recvCell (up i c) i) 0 0)
      ⊢ iprop(((cred (tallyAt (sendCell c i) () N) ∗ owes (c : Thread nD τ) (owed c a' 7) W) -∗ wpc (F := F) c (kk ⟨⟩) Q)
          -∗ wpc (F := F) c (.op (.enqueueDma (sSlot k) (.remote (Dev.tc n : Thread nD τ) (vSlot k) (.dma (sendS i)) hsc) (.dma (recvS i)) hsrc hdst hsem) kk) Q) := by
  subst hk hn ha ha'
  iintro ⟨#HR, Hs, ⟨%fd, Hv⟩, HO, Ht1, Ht2⟩ Hk
  unfold sPts vPts
  iapply (Rounds.wp_send_pointsTo 𝒱₀ ER (rd S) (c : Thread nD τ) none (κ₁ := K (c, sIx i)) (κ₂ := K (up i c, vIx i))
    (r₁ := 0) (r₂ := 0) (d₁ := 0) (d₂ := 0) (fs := S c) (fd := fd) (q := fullShare)
    (by rw [duties_send]; exact Finset.mem_singleton_self _) (by rw [duties_recv]; exact Finset.mem_singleton_self _)
    () () N (amount_vSlot i) rfl rfl (owed c (i.val + 1) 7) (owed_send c i 7) (W := W)
    (by rw [payload_send]; unfold sendPay sPts; rw [sSlot_set])
    (by
      rw [payload_recv]; unfold recvPay vPts; rw [vSlot_set]
      refine Entails.of_eq (pointsTo_congr fun I hI => ?_)
      rw [landed_eq _ _ _ I hI]
      unfold landed
      rw [mem_slot.mp hI, src_up])) $$ [Hs Hv HO Ht1 Ht2]
  · isplitr; · iapply (inv_send S K c i); iexact HR
    isplitr; · iapply (inv_recv S K (up i c) i); iexact HR
    isplitl [Hs]; · rw [sSlot_set]; iexact Hs
    isplitl [Hv]; · rw [vSlot_set]; iexact Hv
    isplitl [HO]; · iexact HO
    isplitl [Ht1]; · iexact Ht1
    isplitr; · iapply (reached_send S K c i); iexact HR
    isplitl [Ht2]; · iexact Ht2
    iapply (reached_recv S K (up i c) i); iexact HR
  iexact Hk

/-- The arrival into slot `i + 1`, and its semaphore back at zero. -/
theorem arrive_step {Q : α → sProp 𝕄} (c : Dev nD) (i : Fin 7) {k : Fin 8} (hk : k = i.succ) (W : Waits sig Unit)
    {hsrc : (sSlot k).view.WordExact} {hdst : (vSlot k).view.WordExact}
    {kk : PUnit → Prog (TpuEff nD τ sig (Elt F) Λ₀ .tc) α} :
    iprop(records S K ∗ cred (tallyAt (recvCell c i) () N) ∗ owes (c : Thread nD τ) 0 W ∗ atPos ER (recvCell c i) 0 ∅ 0)
      ⊢ iprop(((owes (c : Thread nD τ) 0 (insert (SemLoc.dma (recvS i), ()) W) ∗ semVal (recvCell c i) 0 ∗ vPts c i.succ (landed S c)) -∗ wpc (F := F) c (kk ⟨⟩) Q)
          -∗ wpc (F := F) c (.op (.waitDma2 (recvS i) (sSlot k) (vSlot k) hsrc hdst) kk) Q) := by
  subst hk
  iintro ⟨#HR, Hc, HO, Hat⟩ Hk
  iapply (Rounds.wp_wait_rest_token 𝒱₀ ER (rd S) (c : Thread nD τ) none (κ := K (c, vIx i))
      (wpE_waitDma2_eq 𝒱₀ (c : Thread nD τ) none Set.univ) (Set.mem_univ _) () (O := 0) (W := W) (R := 0) (m := 0) (T := ∅)
      (by rw [Nat.zero_add, expect_recv])) $$ [Hc HO Hat]
  · isplitr; · iapply (inv_recv S K c i); iexact HR
    isplitl [Hc]; · iexact Hc
    isplitl [HO]; · iexact HO
    isplitr; · rw [MayWait_zero]; iempintro
    iexact Hat
  iintro ⟨HO, Hat, -, Hpay⟩
  ihave Hp := (Entails.of_eq (rest_recv S c i)) $$ Hpay
  unfold recvPay
  imod (Rounds.cell_close ER (rd S) (Set.mem_univ (K (c, vIx i))) (fun h => h) (R := 0 + 1) (duties_later S (recvCell c i))) $$ [Hat] with Hz
  · isplitr; · iapply (inv_recv S K c i); iexact HR
    iexact Hat
  iapply Hk
  isplitl [HO]; · iexact HO
  isplitl [Hz] <;> iassumption

/-- The return of copy `i`: its slot of the send buffer, and its semaphore back at zero. -/
theorem return_step {Q : α → sProp 𝕄} (c : Dev nD) (i : Fin 7) {k : Fin 8} (hk : k = i.succ) (W : Waits sig Unit)
    {hsrc : (vSlot k).view.WordExact} {hdst : (sSlot k).view.WordExact}
    {kk : PUnit → Prog (TpuEff nD τ sig (Elt F) Λ₀ .tc) α} :
    iprop(records S K ∗ cred (tallyAt (sendCell c i) () N) ∗ owes (c : Thread nD τ) 0 W ∗ atPos ER (sendCell c i) 0 ∅ 0)
      ⊢ iprop(((owes (c : Thread nD τ) 0 (insert (SemLoc.dma (sendS i), ()) W) ∗ semVal (sendCell c i) 0 ∗ sPts c i.succ (S c)) -∗ wpc (F := F) c (kk ⟨⟩) Q)
          -∗ wpc (F := F) c (.op (.waitDma2 (sendS i) (vSlot k) (sSlot k) hsrc hdst) kk) Q) := by
  subst hk
  iintro ⟨#HR, Hc, HO, Hat⟩ Hk
  iapply (Rounds.wp_wait_rest_token 𝒱₀ ER (rd S) (c : Thread nD τ) none (κ := K (c, sIx i))
      (wpE_waitDma2_eq 𝒱₀ (c : Thread nD τ) none Set.univ) (Set.mem_univ _) () (O := 0) (W := W) (R := 0) (m := 0) (T := ∅)
      (by rw [Nat.zero_add, expect_send])) $$ [Hc HO Hat]
  · isplitr; · iapply (inv_send S K c i); iexact HR
    isplitl [Hc]; · iexact Hc
    isplitl [HO]; · iexact HO
    isplitr; · rw [MayWait_zero]; iempintro
    iexact Hat
  iintro ⟨HO, Hat, -, Hpay⟩
  ihave Hp := (Entails.of_eq (rest_send S c i)) $$ Hpay
  unfold sendPay
  imod (Rounds.cell_close ER (rd S) (Set.mem_univ (K (c, sIx i))) (fun h => h) (R := 0 + 1) (duties_later S (sendCell c i))) $$ [Hat] with Hz
  · isplitr; · iapply (inv_send S K c i); iexact HR
    iexact Hat
  iapply Hk
  isplitl [HO]; · iexact HO
  isplitl [Hz] <;> iassumption

end Ops

end Cert.KernelIdeal.Run

end
-- ==== Proof.BodyA.lean ====
/-
The dispatch side of the body: the loads of the inputs, the four row blocks of `y`, and the eight slots of the send
buffer.
-/
module

public import proofs.«01_k».proof.Proof.Steps

@[expose] public section

noncomputable section

namespace Cert.KernelIdeal.Run

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

theorem zeros2 : (![0, 0] : Fin 2 → ℕ) = fun _ => 0 := funext fun a => by fin_cases a <;> rfl
theorem zeros3 : (![0, 0, 0] : Fin 3 → ℕ) = fun _ => 0 := funext fun a => by fin_cases a <;> rfl

/-- Each staged input and the two whole scratch buffers of device `c`, at given contents. -/
abbrev xP (c : Dev nD) (f : Vec F S1024x256 .f32) : sProp 𝕄 := (((c : Thread nD τ).loc cc0_stg0_0) ↦{fullShare} f)
abbrev rtP (c : Dev nD) (f : Vec F S1024x1 .i32) : sProp 𝕄 := (((c : Thread nD τ).loc cc0_stg1_0) ↦{fullShare} f)
abbrev wP (c : Dev nD) (f : Vec F S4x256x512 .f32) : sProp 𝕄 := (((c : Thread nD τ).loc cc0_stg2_0) ↦{fullShare} f)
abbrev oP (c : Dev nD) (f : Vec F S128x512 .f32) : sProp 𝕄 := (((c : Thread nD τ).loc cc0_stg3_0) ↦{fullShare} f)
abbrev rankP (c : Dev nD) (f : Vec F S1024x32 .f32) : sProp 𝕄 := (((c : Thread nD τ).loc cc0_scratch0) ↦{fullShare} f)
abbrev yP (c : Dev nD) (f : Vec F S128x512 .bf16) : sProp 𝕄 := (((c : Thread nD τ).loc cc0_scratch1) ↦{fullShare} f)

theorem read_x (f : Vec F S1024x256 .f32) (inb) :
    xM.view.readAt (Elt F) (Rect.unit (s := S1024x256) ![0, 0] S1024x256.size inb).toLoadRect f = f :=
  Memref.readAt_unit_zero (Elt F) cc0_stg0_0 zeros2 inb f
theorem read_rt (f : Vec F S1024x1 .i32) (inb) :
    rtM.view.readAt (Elt F) (Rect.unit (s := S1024x1) ![0, 0] S1024x1.size inb).toLoadRect f = f :=
  Memref.readAt_unit_zero (Elt F) cc0_stg1_0 zeros2 inb f
theorem read_y (f : Vec F S128x512 .bf16) (inb) :
    yM.view.readAt (Elt F) (Rect.unit (s := S128x512) ![0, 0] S128x512.size inb).toLoadRect f = f :=
  Memref.readAt_unit_zero (Elt F) cc0_scratch1 zeros2 inb f

/-! ## The row blocks of `y` -/

/-- `y` with its first `n` row blocks written. -/
def yUpTo (g f : Vec F S128x512 .bf16) (n : ℕ) : Vec F S128x512 .bf16 := fun I => if (I 0).val < 32 * n then g I else f I

theorem yUpTo_zero (g f : Vec F S128x512 .bf16) : yUpTo g f 0 = f := funext fun I => if_neg (by omega)
theorem yUpTo_four (g f : Vec F S128x512 .bf16) : yUpTo g f 4 = g := funext fun I => if_pos (I 0).isLt

theorem rows_inb (e : Fin 4) : ∀ a, (![32 * e.val, 0] : Fin 2 → ℕ) a + S32x512.size a ≤ S128x512.size a := by
  revert e; decide
abbrev rowsRect (e : Fin 4) : Rect S128x512 := Rect.unit (s := S128x512) ![32 * e.val, 0] S32x512.size (rows_inb e)

/-- Storing a row block in its place extends the written part by it. -/
theorem write_rows (g f : Vec F S128x512 .bf16) (e : Fin 4) (b : Vec F S32x512 .bf16)
    (hb : ∀ x, g ((rowsRect e).emb x) = b x) :
    (yM.access (rowsRect e)).write (Elt F) (yUpTo g f e.val) b Finset.univ = yUpTo g f (e.val + 1) := by
  funext I
  by_cases hI : I ∈ (yM.access (rowsRect e)).set
  · obtain ⟨x, -, rfl⟩ := Finset.mem_map.mp hI
    rw [View.write_emb_of_mem _ _ (Finset.mem_univ x)]
    have h0 : (((rowsRect e).emb x 0 : Fin 128) : ℕ) = 32 * e.val + (x 0).val :=
      ValueKit.rect_emb_unit_val (s := S128x512) ![32 * e.val, 0] S32x512.size (rows_inb e) x 0
    have hx : (x 0).val < 32 := (x 0).isLt
    show b x = yUpTo g f (e.val + 1) ((rowsRect e).emb x)
    unfold yUpTo
    rw [if_pos (by rw [h0]; omega), hb]
  · rw [View.write_of_not_mem _ _ _ (by rw [View.setOn_univ]; exact hI)]
    have hne : ¬ (32 * e.val ≤ (I 0).val ∧ (I 0).val < 32 * e.val + 32) := fun h => hI (by
      rw [show (yM.access (rowsRect e)).set = (rowsRect e).set from View.set_slice_whole _ _]
      refine (Rect.mem_set_unit).mpr fun a => ?_
      match a with
      | ⟨0, _⟩ => exact h
      | ⟨1, _⟩ => exact ⟨Nat.zero_le _, by have := (I 1).isLt; exact Nat.lt_of_lt_of_le this (by show 512 ≤ 0 + 512; omega)⟩)
    unfold yUpTo
    split <;> split <;> first | rfl | (exfalso; omega)

theorem yC_rows (d : Dev nD) (rt : Vec F S1024x1 .i32) (x : Vec F S1024x256 .f32) (w : Vec F S4x256x512 .f32) (e : Fin 4) (z : S32x512.Idx) :
    yC d rt x w ((rowsRect e).emb z) = yBlock d rt x w e z := by
  have h0 : (((rowsRect e).emb z 0 : Fin 128) : ℕ) = 32 * e.val + (z 0).val :=
    ValueKit.rect_emb_unit_val (s := S128x512) ![32 * e.val, 0] S32x512.size (rows_inb e) z 0
  have h1 : (((rowsRect e).emb z 1 : Fin 512) : ℕ) = 0 + (z 1).val :=
    ValueKit.rect_emb_unit_val (s := S128x512) ![32 * e.val, 0] S32x512.size (rows_inb e) z 1
  have hx : (z 0).val < 32 := (z 0).isLt
  unfold yC
  congr 1
  · refine Fin.ext ?_
    show (((rowsRect e).emb z 0 : Fin 128) : ℕ) / 32 = e.val
    rw [h0]; omega
  · funext a
    match a with
    | ⟨0, _⟩ =>
      refine Fin.ext ?_
      show (((rowsRect e).emb z 0 : Fin 128) : ℕ) % 32 = (z 0).val
      rw [h0]; omega
    | ⟨1, _⟩ => exact Fin.ext (by rw [← Nat.zero_add (z ⟨1, _⟩).val]; exact h1)

theorem store_rows {α : Type} {Q : α → sProp 𝕄} (c : Dev nD) (g f : Vec F S128x512 .bf16) {e : Fin 4} {n n' : ℕ} (hn : n = e.val) (hn' : n' = e.val + 1) {b : Vec F S32x512 .bf16}
    (hb : ∀ x, g ((rowsRect e).emb x) = b x)
    {hx : (yM.access (rowsRect e)).Stores Finset.univ} {hm : (Finset.univ : Finset (rowsRect e).shape.Idx) = Finset.univ ∨ ∀ a, (rowsRect e).stride a = 1}
    {kk : PUnit → Prog (TpuEff nD τ sig (Elt F) Λ₀ .tc) α} :
    yP c (yUpTo g f n) ⊢ iprop((yP c (yUpTo g f n') -∗ wpc (F := F) c (kk ⟨⟩) Q)
      -∗ wpc (F := F) c (.op (.store yM (rowsRect e) b Finset.univ hx hm) kk) Q) := by
  subst hn hn'
  rw [← write_rows g f e b hb]
  exact wp_store 𝒱₀ (c : Thread nD τ) none Set.univ (m := yM) (r := rowsRect e) (Mk := Finset.univ) (Finset.subset_univ _)

/-! ## The parts -/

section Parts
variable (c : Dev nD) (rt : Vec F S1024x1 .i32) (x : Vec F S1024x256 .f32) (w : Vec F S4x256x512 .f32)

theorem part1 {Q : (Σ' (d0 : Dev nD) (v2 : BitVec 32) (v4 : IVec S1024x1 32) (v20 : FVec F S1024x1024 .bf16) (v21 : FVec F S1024x4 .f32) (v28 : FVec F S1024x4 .f32) (v29 : IVec S4x128 32) (v30 : IVec S4x128 32) (c32_i32 : BitVec 32) (v32 : IVec S4x128 32) (v39 : IVec S4x128 32), IVec S4x128 32) → sProp 𝕄} :
    rtP c rt ⊢ iprop((rtP c rt -∗ Q ⟨c, val2 c, val4 rt, val20 (F := F), val21 c rt, val28 c rt, val29, val30, 32#32, k0_pay6, k0_pay7, k0_pay8⟩)
      -∗ wpc (F := F) c (k0_part1 (F := F) xM (Memref.isWhole_whole _) rtM (Memref.isWhole_whole _) wM (Memref.isWhole_whole _) oM (Memref.isWhole_whole _) rankM (Memref.isWhole_whole _) yM (Memref.isWhole_whole _) sM (Memref.isWhole_whole _) vM (Memref.isWhole_whole _) cc0_scratch4 cc0_scratch5) Q) := by
  simp only [k0_part1_eq_skeleton]; unfold k0_part1_skel
  simp only [Prog.lift, Prog.bind_op, Prog.bind_ret, Prog.pure_eq_ret, wp_deviceId]
  iintro Hr Hk
  iapply (wp_load 𝒱₀ (c : Thread nD τ) none Set.univ (m := rtM) (Finset.subset_univ _)) $$ Hr; iintro Hr
  rw [read_rt, wp_ret]; imodintro
  refine (?_ : Entails' _ (Q ⟨c, val2 c, val4 rt, val20 (F := F), val21 c rt, val28 c rt, val29, val30, 32#32, k0_pay6, k0_pay7, k0_pay8⟩))
  iapply Hk; iexact Hr

theorem part2 (f : Vec F S128x512 .bf16) {Q : (Σ' (v58 : FVec F S4x128 .bf16) (v71 : FVec F S1024x128 .bf16) (v75 : FVec F S128x256 .f32), FVec F S32x256 .bf16) → sProp 𝕄} :
    iprop(xP c x ∗ wP c w ∗ yP c f) ⊢ iprop((xP c x ∗ wP c w ∗ yP c (yUpTo (yC c rt x w) f 1) -∗ Q ⟨val58, val71 c rt, val75 c rt x, val87 c rt x⟩)
      -∗ wpc (F := F) c (k0_part2 (F := F) xM (Memref.isWhole_whole _) rtM (Memref.isWhole_whole _) wM (Memref.isWhole_whole _) oM (Memref.isWhole_whole _) rankM (Memref.isWhole_whole _) yM (Memref.isWhole_whole _) sM (Memref.isWhole_whole _) vM (Memref.isWhole_whole _) cc0_scratch4 cc0_scratch5 (val21 c rt) (val28 c rt) val29 val30 32#32 k0_pay6 k0_pay7 k0_pay8) Q) := by
  simp only [k0_part2_eq_skeleton]; unfold k0_part2_skel
  simp only [Prog.lift, Prog.bind_op, Prog.bind_ret, Prog.pure_eq_ret]
  iintro ⟨Hx, Hw, Hy⟩ Hk
  iapply (wp_load 𝒱₀ (c : Thread nD τ) none Set.univ (m := xM) (Finset.subset_univ _)) $$ Hx; iintro Hx
  iapply (wp_load 𝒱₀ (c : Thread nD τ) none Set.univ (m := wM) (Finset.subset_univ _)) $$ Hw; iintro Hw
  iapply (wp_load 𝒱₀ (c : Thread nD τ) none Set.univ (m := yM) (Finset.subset_univ _)) $$ Hy; iintro Hy
  rw [read_x]
  ihave Hy := (Entails.of_eq (congrArg (yP c) (yUpTo_zero (yC c rt x w) f).symm)) $$ Hy
  iapply (store_rows c (yC c rt x w) f (e := 0) (n := 0) (n' := 1) rfl rfl (fun z => yC_rows c rt x w 0 z)) $$ Hy; iintro Hy
  try unfold wpc
  rw [wp_ret]; imodintro
  refine (?_ : Entails' _ (Q ⟨val58, val71 c rt, val75 c rt x, val87 c rt x⟩))
  iapply Hk
  isplitl [Hx]; · iexact Hx
  isplitl [Hw]; · iexact Hw
  iexact Hy

theorem part3 (f : Vec F S128x512 .bf16) {Q : (Σ' (v120 : IVec S8x1 32) (v121 : IVec S8x1024 32) (c128_i32 : BitVec 32) (v123 : IVec S8x1024 32), IVec S8x1024 32) → sProp 𝕄} :
    iprop(wP c w ∗ yP c (yUpTo (yC c rt x w) f 1)) ⊢ iprop((wP c w ∗ yP c (yC c rt x w) -∗ Q ⟨val120 c, val121, 128#32, k0_pay18, k0_pay19⟩)
      -∗ wpc (F := F) c (k0_part3 (F := F) xM (Memref.isWhole_whole _) rtM (Memref.isWhole_whole _) wM (Memref.isWhole_whole _) oM (Memref.isWhole_whole _) rankM (Memref.isWhole_whole _) yM (Memref.isWhole_whole _) sM (Memref.isWhole_whole _) vM (Memref.isWhole_whole _) cc0_scratch4 cc0_scratch5 (val2 c) (val75 c rt x) (val87 c rt x)) Q) := by
  simp only [k0_part3_eq_skeleton]; unfold k0_part3_skel
  simp only [Prog.lift, Prog.bind_op, Prog.bind_ret, Prog.pure_eq_ret]
  iintro ⟨Hw, Hy⟩ Hk
  iapply (wp_load 𝒱₀ (c : Thread nD τ) none Set.univ (m := wM) (Finset.subset_univ _)) $$ Hw; iintro Hw
  iapply (wp_load 𝒱₀ (c : Thread nD τ) none Set.univ (m := yM) (Finset.subset_univ _)) $$ Hy; iintro Hy
  iapply (store_rows c (yC c rt x w) f (e := 1) (n := 1) (n' := 2) rfl rfl (fun z => yC_rows c rt x w 1 z)) $$ Hy; iintro Hy
  iapply (wp_load 𝒱₀ (c : Thread nD τ) none Set.univ (m := wM) (Finset.subset_univ _)) $$ Hw; iintro Hw
  iapply (wp_load 𝒱₀ (c : Thread nD τ) none Set.univ (m := yM) (Finset.subset_univ _)) $$ Hy; iintro Hy
  iapply (store_rows c (yC c rt x w) f (e := 2) (n := 2) (n' := 3) rfl rfl (fun z => yC_rows c rt x w 2 z)) $$ Hy; iintro Hy
  iapply (wp_load 𝒱₀ (c : Thread nD τ) none Set.univ (m := wM) (Finset.subset_univ _)) $$ Hw; iintro Hw
  iapply (wp_load 𝒱₀ (c : Thread nD τ) none Set.univ (m := yM) (Finset.subset_univ _)) $$ Hy; iintro Hy
  iapply (store_rows c (yC c rt x w) f (e := 3) (n := 3) (n' := 4) rfl rfl (fun z => yC_rows c rt x w 3 z)) $$ Hy; iintro Hy
  ihave Hy := (Entails.of_eq (congrArg (yP c) (yUpTo_four (yC c rt x w) f))) $$ Hy
  try unfold wpc
  rw [wp_ret]; imodintro
  refine (?_ : Entails' _ (Q ⟨val120 c, val121, 128#32, k0_pay18, k0_pay19⟩))
  iapply Hk
  isplitl [Hw]; · iexact Hw
  iexact Hy

theorem part4 {Q : (Σ' (v171 : FVec F S8x128 .f32) (v173 : FVec F S8x128 .f32), IVec S8x128 32) → sProp 𝕄} :
    Q ⟨val171 c rt, val173 c rt, val174⟩
      ⊢ wpc (F := F) c (k0_part4 (F := F) xM (Memref.isWhole_whole _) rtM (Memref.isWhole_whole _) wM (Memref.isWhole_whole _) oM (Memref.isWhole_whole _) rankM (Memref.isWhole_whole _) yM (Memref.isWhole_whole _) sM (Memref.isWhole_whole _) vM (Memref.isWhole_whole _) cc0_scratch4 cc0_scratch5 (val21 c rt) (val28 c rt) val58 (val120 c) val121 128#32 k0_pay18 k0_pay19) Q := by
  simp only [k0_part4_eq_skeleton]; unfold k0_part4_skel
  simp only [Prog.pure_eq_ret]
  iintro Hk
  try unfold wpc
  rw [wp_ret]; imodintro
  refine (?_ : Entails' _ (Q ⟨val171 c rt, val173 c rt, val174⟩))
  iexact Hk

theorem part5 {Q : (Σ' (v179 : FVec F S8x128 .f32) (v216 : FVec F S8x128 .f32) (v217 : IVec S384x8 32) (v218 : IVec S384x8 32) (c48_i32 : BitVec 32) (v220 : IVec S384x8 32), IVec S384x8 32) → sProp 𝕄} :
    Q ⟨val179 c rt, val216 c rt, val217, val218, 48#32, k0_pay24, k0_pay25⟩
      ⊢ wpc (F := F) c (k0_part5 (F := F) xM (Memref.isWhole_whole _) rtM (Memref.isWhole_whole _) wM (Memref.isWhole_whole _) oM (Memref.isWhole_whole _) rankM (Memref.isWhole_whole _) yM (Memref.isWhole_whole _) sM (Memref.isWhole_whole _) vM (Memref.isWhole_whole _) cc0_scratch4 cc0_scratch5 (val71 c rt) (val120 c) (val171 c rt) (val173 c rt) val174) Q := by
  simp only [k0_part5_eq_skeleton]; unfold k0_part5_skel
  simp only [Prog.pure_eq_ret]
  iintro Hk
  try unfold wpc
  rw [wp_ret]; imodintro
  refine (?_ : Entails' _ (Q ⟨val179 c rt, val216 c rt, val217, val218, 48#32, k0_pay24, k0_pay25⟩))
  iexact Hk

theorem sendV_slot (k : Fin 8) (I : S8x48x512.Idx) (hI : (I 0 : Fin 8) = k) : sendBlock c rt x w k (under I) = sendV c rt x w I := by
  subst hI; rfl

theorem part6 (fs : Vec F S8x48x512 .bf16) {Q : FVec F S384x128 .bf16 → sProp 𝕄} :
    iprop(yP c (yC c rt x w) ∗ sPts c 0 fs) ⊢ iprop((yP c (yC c rt x w) ∗ sPts c 0 (sendV c rt x w) -∗ Q (val259 c rt))
      -∗ wpc (F := F) c (k0_part6 (F := F) xM (Memref.isWhole_whole _) rtM (Memref.isWhole_whole _) wM (Memref.isWhole_whole _) oM (Memref.isWhole_whole _) rankM (Memref.isWhole_whole _) yM (Memref.isWhole_whole _) sM (Memref.isWhole_whole _) vM (Memref.isWhole_whole _) cc0_scratch4 cc0_scratch5 (val179 c rt) (val216 c rt) val217 val218 48#32 k0_pay24 k0_pay25) Q) := by
  simp only [k0_part6_eq_skeleton]; unfold k0_part6_skel
  simp only [Prog.lift, Prog.bind_op, Prog.bind_ret, Prog.pure_eq_ret]
  iintro ⟨Hy, Hs⟩ Hk
  iapply (wp_load 𝒱₀ (c : Thread nD τ) none Set.univ (m := yM) (Finset.subset_univ _)) $$ Hy; iintro Hy
  iapply (load_s c 0 fs) $$ Hs; iintro Hs
  rw [read_y]
  iapply (store_s c 0 fs (sendV c rt x w) (sendV_slot c rt x w 0)) $$ Hs; iintro Hs
  try unfold wpc
  rw [wp_ret]; imodintro
  refine (?_ : Entails' _ (Q (val259 c rt)))
  iapply Hk
  isplitl [Hy]; · iexact Hy
  iexact Hs

theorem part7 (fs : Vec F S8x48x512 .bf16) {Q : (Σ' (v295 : FVec F S48x128 .bf16), Vec F S128x512 .bf16) → sProp 𝕄} :
    iprop(yP c (yC c rt x w) ∗ sPts c 1 fs ∗ sPts c 2 fs ∗ sPts c 3 fs ∗ sPts c 4 fs)
      ⊢ iprop((yP c (yC c rt x w) ∗ sPts c 1 (sendV c rt x w) ∗ sPts c 2 (sendV c rt x w) ∗ sPts c 3 (sendV c rt x w) ∗ sPts c 4 (sendV c rt x w)
          -∗ Q ⟨k0_pay32 (val259 c rt), yC c rt x w⟩)
      -∗ wpc (F := F) c (k0_part7 (F := F) xM (Memref.isWhole_whole _) rtM (Memref.isWhole_whole _) wM (Memref.isWhole_whole _) oM (Memref.isWhole_whole _) rankM (Memref.isWhole_whole _) yM (Memref.isWhole_whole _) sM (Memref.isWhole_whole _) vM (Memref.isWhole_whole _) cc0_scratch4 cc0_scratch5 (val259 c rt)) Q) := by
  simp only [k0_part7_eq_skeleton]; unfold k0_part7_skel
  simp only [Prog.lift, Prog.bind_op, Prog.bind_ret, Prog.pure_eq_ret]
  iintro ⟨Hy, Hs1, Hs2, Hs3, Hs4⟩ Hk
  iapply (wp_load 𝒱₀ (c : Thread nD τ) none Set.univ (m := yM) (Finset.subset_univ _)) $$ Hy; iintro Hy
  iapply (load_s c 1 fs) $$ Hs1; iintro Hs1
  rw [read_y]
  iapply (store_s c 1 fs (sendV c rt x w) (sendV_slot c rt x w 1)) $$ Hs1; iintro Hs1
  iapply (wp_load 𝒱₀ (c : Thread nD τ) none Set.univ (m := yM) (Finset.subset_univ _)) $$ Hy; iintro Hy
  iapply (load_s c 2 fs) $$ Hs2; iintro Hs2
  rw [read_y]
  iapply (store_s c 2 fs (sendV c rt x w) (sendV_slot c rt x w 2)) $$ Hs2; iintro Hs2
  iapply (wp_load 𝒱₀ (c : Thread nD τ) none Set.univ (m := yM) (Finset.subset_univ _)) $$ Hy; iintro Hy
  iapply (load_s c 3 fs) $$ Hs3; iintro Hs3
  rw [read_y]
  iapply (store_s c 3 fs (sendV c rt x w) (sendV_slot c rt x w 3)) $$ Hs3; iintro Hs3
  iapply (wp_load 𝒱₀ (c : Thread nD τ) none Set.univ (m := yM) (Finset.subset_univ _)) $$ Hy; iintro Hy
  iapply (load_s c 4 fs) $$ Hs4; iintro Hs4
  rw [read_y]
  iapply (store_s c 4 fs (sendV c rt x w) (sendV_slot c rt x w 4)) $$ Hs4; iintro Hs4
  iapply (wp_load 𝒱₀ (c : Thread nD τ) none Set.univ (m := yM) (Finset.subset_univ _)) $$ Hy; iintro Hy
  rw [read_y]
  try unfold wpc
  rw [wp_ret]; imodintro
  refine (?_ : Entails' _ (Q ⟨k0_pay32 (val259 c rt), yC c rt x w⟩))
  iapply Hk
  isplitl [Hy]; · iexact Hy
  isplitl [Hs1]; · iexact Hs1
  isplitl [Hs2]; · iexact Hs2
  isplitl [Hs3]; · iexact Hs3
  iexact Hs4

end Parts

end Cert.KernelIdeal.Run

end
-- ==== Proof.BodyB.lean ====
/-
The exchange in the body: the signals to the other devices and the entry wait, the seven copies, the slot a device
keeps for itself, the arrivals, the output, and the copies' returns.
-/
module

public import proofs.«01_k».proof.Proof.BodyA

@[expose] public section

noncomputable section

namespace Cert.KernelIdeal.Run

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## Names of the printed devices and semaphores -/

theorem dev1_up (c : Dev nD) : (⟨k0_dev1 c, k0_dev1_lt c⟩ : Dev nD) = up 0 c := Fin.ext (k0_dev1_eq c)
theorem dev2_up (c : Dev nD) : (⟨k0_dev2 c, k0_dev2_lt c⟩ : Dev nD) = up 1 c := Fin.ext (k0_dev2_eq c)
theorem dev3_up (c : Dev nD) : (⟨k0_dev3 c, k0_dev3_lt c⟩ : Dev nD) = up 2 c := Fin.ext (k0_dev3_eq c)
theorem dev4_up (c : Dev nD) : (⟨k0_dev4 c, k0_dev4_lt c⟩ : Dev nD) = up 3 c := Fin.ext (k0_dev4_eq c)
theorem dev5_up (c : Dev nD) : (⟨k0_dev5 c, k0_dev5_lt c⟩ : Dev nD) = up 4 c := Fin.ext (k0_dev5_eq c)
theorem dev6_up (c : Dev nD) : (⟨k0_dev6 c, k0_dev6_lt c⟩ : Dev nD) = up 5 c := Fin.ext (k0_dev6_eq c)
theorem dev7_up (c : Dev nD) : (⟨k0_dev7 c, k0_dev7_lt c⟩ : Dev nD) = up 6 c := Fin.ext (k0_dev7_eq c)
theorem dev8_up (c : Dev nD) : (⟨k0_dev8 c, k0_dev8_lt c⟩ : Dev nD) = up 0 c := Fin.ext (k0_dev8_eq c)
theorem dev9_up (c : Dev nD) : (⟨k0_dev9 c, k0_dev9_lt c⟩ : Dev nD) = up 1 c := Fin.ext (k0_dev9_eq c)
theorem dev10_up (c : Dev nD) : (⟨k0_dev10 c, k0_dev10_lt c⟩ : Dev nD) = up 2 c := Fin.ext (k0_dev10_eq c)
theorem dev11_up (c : Dev nD) : (⟨k0_dev11 c, k0_dev11_lt c⟩ : Dev nD) = up 3 c := Fin.ext (k0_dev11_eq c)
theorem dev12_up (c : Dev nD) : (⟨k0_dev12 c, k0_dev12_lt c⟩ : Dev nD) = up 4 c := Fin.ext (k0_dev12_eq c)
theorem dev13_up (c : Dev nD) : (⟨k0_dev13 c, k0_dev13_lt c⟩ : Dev nD) = up 5 c := Fin.ext (k0_dev13_eq c)
theorem dev14_up (c : Dev nD) : (⟨k0_dev14 c, k0_dev14_lt c⟩ : Dev nD) = up 6 c := Fin.ext (k0_dev14_eq c)

theorem send0_eq : ((cc0_scratch4.slice (Rect.unit (s := S7) ![0] S1.size inb_S7_S1_0)).squeeze S_ squeezes_S1_S_).sem = sendS 0 := rfl
theorem send1_eq : ((cc0_scratch4.slice (Rect.unit (s := S7) ![1] S1.size inb_S7_S1_1)).squeeze S_ squeezes_S1_S_).sem = sendS 1 := rfl
theorem send2_eq : ((cc0_scratch4.slice (Rect.unit (s := S7) ![2] S1.size inb_S7_S1_2)).squeeze S_ squeezes_S1_S_).sem = sendS 2 := rfl
theorem send3_eq : ((cc0_scratch4.slice (Rect.unit (s := S7) ![3] S1.size inb_S7_S1_3)).squeeze S_ squeezes_S1_S_).sem = sendS 3 := rfl
theorem send4_eq : ((cc0_scratch4.slice (Rect.unit (s := S7) ![4] S1.size inb_S7_S1_4)).squeeze S_ squeezes_S1_S_).sem = sendS 4 := rfl
theorem send5_eq : ((cc0_scratch4.slice (Rect.unit (s := S7) ![5] S1.size inb_S7_S1_5)).squeeze S_ squeezes_S1_S_).sem = sendS 5 := rfl
theorem send6_eq : ((cc0_scratch4.slice (Rect.unit (s := S7) ![6] S1.size inb_S7_S1_6)).squeeze S_ squeezes_S1_S_).sem = sendS 6 := rfl
theorem recv0_eq : ((cc0_scratch5.slice (Rect.unit (s := S8) ![1] S1.size inb_S8_S1_1)).squeeze S_ squeezes_S1_S_).sem = recvS 0 := rfl
theorem recv1_eq : ((cc0_scratch5.slice (Rect.unit (s := S8) ![2] S1.size inb_S8_S1_2)).squeeze S_ squeezes_S1_S_).sem = recvS 1 := rfl
theorem recv2_eq : ((cc0_scratch5.slice (Rect.unit (s := S8) ![3] S1.size inb_S8_S1_3)).squeeze S_ squeezes_S1_S_).sem = recvS 2 := rfl
theorem recv3_eq : ((cc0_scratch5.slice (Rect.unit (s := S8) ![4] S1.size inb_S8_S1_4)).squeeze S_ squeezes_S1_S_).sem = recvS 3 := rfl
theorem recv4_eq : ((cc0_scratch5.slice (Rect.unit (s := S8) ![5] S1.size inb_S8_S1_5)).squeeze S_ squeezes_S1_S_).sem = recvS 4 := rfl
theorem recv5_eq : ((cc0_scratch5.slice (Rect.unit (s := S8) ![6] S1.size inb_S8_S1_6)).squeeze S_ squeezes_S1_S_).sem = recvS 5 := rfl
theorem recv6_eq : ((cc0_scratch5.slice (Rect.unit (s := S8) ![7] S1.size inb_S8_S1_7)).squeeze S_ squeezes_S1_S_).sem = recvS 6 := rfl

theorem one_word : (1#32 : BitVec 32).toInt = ((1 : ℕ) : ℤ) := rfl
theorem seven_word : (7#32 : BitVec 32).toInt = ((7 : ℕ) : ℤ) := rfl

/-! ## The parts -/

section Parts
variable (S : Dev nD → Vec F S8x48x512 .bf16) (K : Dev nD × Fin 16 → ℕ)
variable (c : Dev nD) (rt : Vec F S1024x1 .i32) (x : Vec F S1024x256 .f32) (w : Vec F S4x256x512 .f32) (W : Waits sig Unit)

/-- A slot this device lends to its signal's target, whatever lies in it, with the token of the signal. -/
abbrev lend (j : Fin 7) : sProp 𝕄 :=
  iprop(dutyTok ER (barCell (up j c)) 0 j.rev ∗ (∃ f, vPts (F := F) c j.rev.succ f))

theorem part8 (fs : Vec F S8x48x512 .bf16) {Q : (Σ' (v316 : Sems sig S_), BitVec 32) → sProp 𝕄} :
    iprop(records S K ∗ yP c (yC c rt x w) ∗ sPts c 5 fs ∗ sPts c 6 fs ∗ sPts c 7 fs ∗ owes (c : Thread nD τ) (owed c 0 0) W ∗ lend c 0 ∗ lend c 1)
      ⊢ iprop((yP c (yC c rt x w) ∗ sPts c 5 (sendV c rt x w) ∗ sPts c 6 (sendV c rt x w) ∗ sPts c 7 (sendV c rt x w)
          ∗ owes (c : Thread nD τ) (owed c 0 2) W -∗ Q ⟨SemArray.scalar (sig.barrier 0 rfl), 3#32⟩)
      -∗ wpc (F := F) c (k0_part8 (F := F) xM (Memref.isWhole_whole _) rtM (Memref.isWhole_whole _) wM (Memref.isWhole_whole _) oM (Memref.isWhole_whole _) rankM (Memref.isWhole_whole _) yM (Memref.isWhole_whole _) sM (Memref.isWhole_whole _) vM (Memref.isWhole_whole _) cc0_scratch4 cc0_scratch5 c (val2 c) (val259 c rt) (k0_pay32 (val259 c rt)) (yC c rt x w)) Q) := by
  simp only [k0_part8_eq_skeleton]; unfold k0_part8_skel
  simp only [semSignalWord, one_word, Prog.lift, Prog.bind_op, Prog.bind_ret, Prog.pure_eq_ret]
  iintro ⟨#HR, Hy, Hs5, Hs6, Hs7, HO, ⟨Ht0, Hv0⟩, ⟨Ht1, Hv1⟩⟩ Hk
  iapply (load_s c 5 fs) $$ Hs5; iintro Hs5
  iapply (store_s c 5 fs (sendV c rt x w) (sendV_slot c rt x w 5)) $$ Hs5; iintro Hs5
  iapply (wp_load 𝒱₀ (c : Thread nD τ) none Set.univ (m := yM) (Finset.subset_univ _)) $$ Hy; iintro Hy
  iapply (load_s c 6 fs) $$ Hs6; iintro Hs6
  rw [read_y]
  iapply (store_s c 6 fs (sendV c rt x w) (sendV_slot c rt x w 6)) $$ Hs6; iintro Hs6
  iapply (wp_load 𝒱₀ (c : Thread nD τ) none Set.univ (m := yM) (Finset.subset_univ _)) $$ Hy; iintro Hy
  iapply (load_s c 7 fs) $$ Hs7; iintro Hs7
  rw [read_y]
  iapply (store_s c 7 fs (sendV c rt x w) (sendV_slot c rt x w 7)) $$ Hs7; iintro Hs7
  iapply (signal_step S K c _ 0 (dev1_up c) W (b := 0) (b' := 1) rfl rfl rfl) $$ [HO Ht0 Hv0]
  · isplitr; · iexact HR
    isplitl [HO]; · iexact HO
    isplitl [Ht0] <;> iassumption
  iintro HO
  iapply (signal_step S K c _ 1 (dev2_up c) W (b := 1) (b' := 2) rfl rfl rfl) $$ [HO Ht1 Hv1]
  · isplitr; · iexact HR
    isplitl [HO]; · iexact HO
    isplitl [Ht1] <;> iassumption
  iintro HO
  try unfold wpc
  rw [wp_ret]; imodintro
  iapply Hk
  isplitl [Hy]; · iexact Hy
  isplitl [Hs5]; · iexact Hs5
  isplitl [Hs6]; · iexact Hs6
  isplitl [Hs7]; · iexact Hs7
  iexact HO

theorem part9 {Q : BitVec 32 → sProp 𝕄} :
    iprop(records S K ∗ levAts L lv ∗ owes (c : Thread nD τ) (owed c 0 2) W ∗ (lend c 2 ∗ lend c 3 ∗ lend c 4 ∗ lend c 5 ∗ lend c 6)
        ∗ cred (tallyAt (barCell c) () 7) ∗ atPos ER (barCell c) 0 ∅ 0)
      ⊢ iprop((owes (c : Thread nD τ) (owed c 0 7) (insert (SemLoc.reg barS, ()) W) ∗ atPos ER (barCell c) 1 ∅ 0
              ∗ bigSep Finset.univ (fun j => iprop(∃ f, vPts (F := F) (up j c) j.succ f)) -∗ Q (val346 c))
      -∗ wpc (F := F) c (k0_part9 (F := F) xM (Memref.isWhole_whole _) rtM (Memref.isWhole_whole _) wM (Memref.isWhole_whole _) oM (Memref.isWhole_whole _) rankM (Memref.isWhole_whole _) yM (Memref.isWhole_whole _) sM (Memref.isWhole_whole _) vM (Memref.isWhole_whole _) cc0_scratch4 cc0_scratch5 c (val2 c) (SemArray.scalar (sig.barrier 0 rfl)) 3#32) Q) := by
  simp only [k0_part9_eq_skeleton]; unfold k0_part9_skel
  simp only [semSignalWord, semWaitWord, one_word, seven_word, Prog.lift, Prog.bind_op, Prog.bind_ret, Prog.pure_eq_ret]
  iintro ⟨#HR, #Hl, HO, ⟨⟨Ht2, Hv2⟩, ⟨Ht3, Hv3⟩, ⟨Ht4, Hv4⟩, ⟨Ht5, Hv5⟩, ⟨Ht6, Hv6⟩⟩, Hc, Hat⟩ Hk
  iapply (signal_step S K c _ 2 (dev3_up c) W (b := 2) (b' := 3) rfl rfl rfl) $$ [HO Ht2 Hv2]
  · isplitr; · iexact HR
    isplitl [HO]; · iexact HO
    isplitl [Ht2] <;> iassumption
  iintro HO
  iapply (signal_step S K c _ 3 (dev4_up c) W (b := 3) (b' := 4) rfl rfl rfl) $$ [HO Ht3 Hv3]
  · isplitr; · iexact HR
    isplitl [HO]; · iexact HO
    isplitl [Ht3] <;> iassumption
  iintro HO
  iapply (signal_step S K c _ 4 (dev5_up c) W (b := 4) (b' := 5) rfl rfl rfl) $$ [HO Ht4 Hv4]
  · isplitr; · iexact HR
    isplitl [HO]; · iexact HO
    isplitl [Ht4] <;> iassumption
  iintro HO
  iapply (signal_step S K c _ 5 (dev6_up c) W (b := 5) (b' := 6) rfl rfl rfl) $$ [HO Ht5 Hv5]
  · isplitr; · iexact HR
    isplitl [HO]; · iexact HO
    isplitl [Ht5] <;> iassumption
  iintro HO
  iapply (signal_step S K c _ 6 (dev7_up c) W (b := 6) (b' := 7) rfl rfl rfl) $$ [HO Ht6 Hv6]
  · isplitr; · iexact HR
    isplitl [HO]; · iexact HO
    isplitl [Ht6] <;> iassumption
  iintro HO
  iapply (entry_step S K c W rfl) $$ [Hc HO Hat]
  · isplitr; · iexact HR
    isplitr; · iexact Hl
    isplitl [Hc]; · iexact Hc
    isplitl [HO] <;> iassumption
  iintro ⟨HO, Hat, Hp⟩
  try unfold wpc
  rw [wp_ret]; imodintro
  refine (?_ : Entails' _ (Q (val346 c)))
  iapply Hk
  isplitl [HO]; · iexact HO
  isplitl [Hat] <;> iassumption

/-- What copy `i` takes: its slot, the landing slot, and the tokens of both ends. -/
abbrev ship (i : Fin 7) : sProp 𝕄 :=
  iprop(sPts c i.succ (S c) ∗ (∃ f, vPts (F := F) (up i c) i.succ f) ∗ dutyTok ER (sendCell c i) 0 0 ∗ dutyTok ER (recvCell (up i c) i) 0 0)
abbrev back (i : Fin 7) : sProp 𝕄 := cred (tallyAt (sendCell c i) () N)

theorem part10 (v346 : BitVec 32) {Q : (Σ' (v358 : BitVec 32), BitVec 32) → sProp 𝕄} :
    iprop(records S K ∗ owes (c : Thread nD τ) (owed c 0 7) W ∗ ship S c 0 ∗ ship S c 1)
      ⊢ iprop((owes (c : Thread nD τ) (owed c 2 7) W ∗ back (F := F) c 0 ∗ back (F := F) c 1 -∗ Q ⟨Scalar.remsi (Scalar.addi (val2 c) 2#32) 8#32, Scalar.remsi (Scalar.addi (val2 c) 3#32) 8#32⟩)
      -∗ wpc (F := F) c (k0_part10 (F := F) xM (Memref.isWhole_whole _) rtM (Memref.isWhole_whole _) wM (Memref.isWhole_whole _) oM (Memref.isWhole_whole _) rankM (Memref.isWhole_whole _) yM (Memref.isWhole_whole _) sM (Memref.isWhole_whole _) vM (Memref.isWhole_whole _) cc0_scratch4 cc0_scratch5 c (val2 c) v346) Q) := by
  simp only [k0_part10_eq_skeleton]; unfold k0_part10_skel
  simp only [send0_eq, send1_eq, send2_eq, send3_eq, send4_eq, send5_eq, send6_eq, recv0_eq, recv1_eq, recv2_eq, recv3_eq, recv4_eq, recv5_eq, recv6_eq, Prog.lift, Prog.bind_op, Prog.bind_ret, Prog.pure_eq_ret]
  iintro ⟨#HR, HO, ⟨Hs0, Hv0, Ht0, Hu0⟩, ⟨Hs1, Hv1, Ht1, Hu1⟩⟩ Hk
  iapply (send_step S K c _ 0 (k := 1) rfl (dev8_up c) W (a := 0) (a' := 1) rfl rfl) $$ [Hs0 Hv0 HO Ht0 Hu0]
  · isplitr; · iexact HR
    isplitl [Hs0]; · iexact Hs0
    isplitl [Hv0]; · iexact Hv0
    isplitl [HO]; · iexact HO
    isplitl [Ht0] <;> iassumption
  iintro ⟨Hb0, HO⟩
  iapply (send_step S K c _ 1 (k := 2) rfl (dev9_up c) W (a := 1) (a' := 2) rfl rfl) $$ [Hs1 Hv1 HO Ht1 Hu1]
  · isplitr; · iexact HR
    isplitl [Hs1]; · iexact Hs1
    isplitl [Hv1]; · iexact Hv1
    isplitl [HO]; · iexact HO
    isplitl [Ht1] <;> iassumption
  iintro ⟨Hb1, HO⟩
  try unfold wpc
  rw [wp_ret]; imodintro
  iapply Hk
  isplitl [HO]; · iexact HO
  isplitl [Hb0] <;> iassumption

theorem part11 {Q : (Σ' (v382 : BitVec 32) (v394 : BitVec 32) (v405 : BitVec 32), BitVec 32) → sProp 𝕄} :
    iprop(records S K ∗ owes (c : Thread nD τ) (owed c 2 7) W ∗ ship S c 2 ∗ ship S c 3 ∗ ship S c 4)
      ⊢ iprop((owes (c : Thread nD τ) (owed c 5 7) W ∗ back (F := F) c 2 ∗ back (F := F) c 3 ∗ back (F := F) c 4 -∗ Q ⟨Scalar.remsi (Scalar.addi (val2 c) 4#32) 8#32, Scalar.remsi (Scalar.addi (val2 c) 5#32) 8#32, Scalar.addi (val2 c) 6#32, 8#32⟩)
      -∗ wpc (F := F) c (k0_part11 (F := F) xM (Memref.isWhole_whole _) rtM (Memref.isWhole_whole _) wM (Memref.isWhole_whole _) oM (Memref.isWhole_whole _) rankM (Memref.isWhole_whole _) yM (Memref.isWhole_whole _) sM (Memref.isWhole_whole _) vM (Memref.isWhole_whole _) cc0_scratch4 cc0_scratch5 c (val2 c)) Q) := by
  simp only [k0_part11_eq_skeleton]; unfold k0_part11_skel
  simp only [send0_eq, send1_eq, send2_eq, send3_eq, send4_eq, send5_eq, send6_eq, recv0_eq, recv1_eq, recv2_eq, recv3_eq, recv4_eq, recv5_eq, recv6_eq, Prog.lift, Prog.bind_op, Prog.bind_ret, Prog.pure_eq_ret]
  iintro ⟨#HR, HO, ⟨Hs2, Hv2, Ht2, Hu2⟩, ⟨Hs3, Hv3, Ht3, Hu3⟩, ⟨Hs4, Hv4, Ht4, Hu4⟩⟩ Hk
  iapply (send_step S K c _ 2 (k := 3) rfl (dev10_up c) W (a := 2) (a' := 3) rfl rfl) $$ [Hs2 Hv2 HO Ht2 Hu2]
  · isplitr; · iexact HR
    isplitl [Hs2]; · iexact Hs2
    isplitl [Hv2]; · iexact Hv2
    isplitl [HO]; · iexact HO
    isplitl [Ht2] <;> iassumption
  iintro ⟨Hb2, HO⟩
  iapply (send_step S K c _ 3 (k := 4) rfl (dev11_up c) W (a := 3) (a' := 4) rfl rfl) $$ [Hs3 Hv3 HO Ht3 Hu3]
  · isplitr; · iexact HR
    isplitl [Hs3]; · iexact Hs3
    isplitl [Hv3]; · iexact Hv3
    isplitl [HO]; · iexact HO
    isplitl [Ht3] <;> iassumption
  iintro ⟨Hb3, HO⟩
  iapply (send_step S K c _ 4 (k := 5) rfl (dev12_up c) W (a := 4) (a' := 5) rfl rfl) $$ [Hs4 Hv4 HO Ht4 Hu4]
  · isplitr; · iexact HR
    isplitl [Hs4]; · iexact Hs4
    isplitl [Hv4]; · iexact Hv4
    isplitl [HO]; · iexact HO
    isplitl [Ht4] <;> iassumption
  iintro ⟨Hb4, HO⟩
  try unfold wpc
  rw [wp_ret]; imodintro
  iapply Hk
  isplitl [HO]; · iexact HO
  isplitl [Hb2]; · iexact Hb2
  isplitl [Hb3] <;> iassumption

/-- The slot a device keeps is the slot it would send to itself. -/
theorem own_slot (V : Vec F S8x48x512 .bf16) (I : S8x48x512.Idx) (hI : (I 0 : Fin 8) = (0 : Fin 8)) :
    k0_pay36 (sM.view.readAt (Elt F) (slotRect 0).toLoadRect V) (under I) = V I := by
  unfold k0_pay36
  rw [shapeCast_shapeCast]
  refine congrArg V (funext fun a => ?_)
  match a with
  | ⟨0, _⟩ => exact Fin.ext ((ValueKit.rect_emb_unit_val (s := S8x48x512) ![0, 0, 0] S1x48x512.size (slot_inb 0) (under I) 0).trans (by have h : (I 0).val = 0 := congrArg Fin.val hI; show 0 + 0 = (I 0).val; rw [h]))
  | ⟨1, _⟩ => exact Fin.ext ((ValueKit.rect_emb_unit_val (s := S8x48x512) ![0, 0, 0] S1x48x512.size (slot_inb 0) (under I) 1).trans (Nat.zero_add _))
  | ⟨2, _⟩ => exact Fin.ext ((ValueKit.rect_emb_unit_val (s := S8x48x512) ![0, 0, 0] S1x48x512.size (slot_inb 0) (under I) 2).trans (Nat.zero_add _))

theorem part12 (v405 c8 : BitVec 32) (fv : Vec F S8x48x512 .bf16) {Q : (Σ' (v406 : BitVec 32) (v418 : BitVec 32), IVec S1x32 32) → sProp 𝕄} :
    iprop(records S K ∗ owes (c : Thread nD τ) (owed c 5 7) W ∗ ship S c 5 ∗ ship S c 6 ∗ sPts c 0 (S c) ∗ vPts c 0 fv)
      ⊢ iprop((owes (c : Thread nD τ) 0 W ∗ back (F := F) c 5 ∗ back (F := F) c 6 ∗ sPts c 0 (S c) ∗ vPts c 0 (landed S c) -∗ Q ⟨Scalar.remsi v405 c8, Scalar.remsi (Scalar.addi (val2 c) 7#32) 8#32, val434⟩)
      -∗ wpc (F := F) c (k0_part12 (F := F) xM (Memref.isWhole_whole _) rtM (Memref.isWhole_whole _) wM (Memref.isWhole_whole _) oM (Memref.isWhole_whole _) rankM (Memref.isWhole_whole _) yM (Memref.isWhole_whole _) sM (Memref.isWhole_whole _) vM (Memref.isWhole_whole _) cc0_scratch4 cc0_scratch5 c (val2 c) v405 c8) Q) := by
  simp only [k0_part12_eq_skeleton]; unfold k0_part12_skel
  simp only [send0_eq, send1_eq, send2_eq, send3_eq, send4_eq, send5_eq, send6_eq, recv0_eq, recv1_eq, recv2_eq, recv3_eq, recv4_eq, recv5_eq, recv6_eq, Prog.lift, Prog.bind_op, Prog.bind_ret, Prog.pure_eq_ret]
  iintro ⟨#HR, HO, ⟨Hs5, Hv5, Ht5, Hu5⟩, ⟨Hs6, Hv6, Ht6, Hu6⟩, Hs, Hv⟩ Hk
  iapply (send_step S K c _ 5 (k := 6) rfl (dev13_up c) W (a := 5) (a' := 6) rfl rfl) $$ [Hs5 Hv5 HO Ht5 Hu5]
  · isplitr; · iexact HR
    isplitl [Hs5]; · iexact Hs5
    isplitl [Hv5]; · iexact Hv5
    isplitl [HO]; · iexact HO
    isplitl [Ht5] <;> iassumption
  iintro ⟨Hb5, HO⟩
  iapply (send_step S K c _ 6 (k := 7) rfl (dev14_up c) W (a := 6) (a' := 7) rfl rfl) $$ [Hs6 Hv6 HO Ht6 Hu6]
  · isplitr; · iexact HR
    isplitl [Hs6]; · iexact Hs6
    isplitl [Hv6]; · iexact Hv6
    isplitl [HO]; · iexact HO
    isplitl [Ht6] <;> iassumption
  iintro ⟨Hb6, HO⟩
  iapply (load_s c 0 (S c)) $$ Hs; iintro Hs
  iapply (load_v c 0 fv) $$ Hv; iintro Hv
  iapply (store_v c 0 fv (landed S c) (fun I hI => (own_slot (S c) I hI).trans (by unfold landed; rw [hI, src_zero]))) $$ Hv; iintro Hv
  rw [owed_done]
  try unfold wpc
  rw [wp_ret]; imodintro
  refine (?_ : Entails' _ (Q ⟨Scalar.remsi v405 c8, Scalar.remsi (Scalar.addi (val2 c) 7#32) 8#32, val434⟩))
  iapply Hk
  isplitl [HO]; · iexact HO
  isplitl [Hb5]; · iexact Hb5
  isplitl [Hb6]; · iexact Hb6
  isplitl [Hs] <;> iassumption

end Parts

end Cert.KernelIdeal.Run

end
-- ==== Proof.BodyC.lean ====
/-
The rest of the body: the ranks of all tokens, the selection matrix, the arrivals, the output and the copies' returns;
and the parts put together.
-/
module

public import proofs.«01_k».proof.Proof.BodyB

@[expose] public section

noncomputable section

namespace Cert.KernelIdeal.Run

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

theorem read_v (f : Vec F S8x48x512 .bf16) (inb) :
    vM.view.readAt (Elt F) (Rect.unit (s := S8x48x512) ![0, 0, 0] S8x48x512.size inb).toLoadRect f = f :=
  Memref.readAt_unit_zero (Elt F) cc0_scratch3 zeros3 inb f
theorem write_rank (f w : Vec F S1024x32 .f32) (inb) :
    (rankM.access (Rect.unit (s := S1024x32) ![0, 0] S1024x32.size inb)).write (Elt F) f w Finset.univ = w :=
  Memref.write_access_unit_zero_univ (Elt F) cc0_scratch0 zeros2 inb f w
theorem write_o (f w : Vec F S128x512 .f32) (inb) :
    (oM.access (Rect.unit (s := S128x512) ![0, 0] S128x512.size inb)).write (Elt F) f w Finset.univ = w :=
  Memref.write_access_unit_zero_univ (Elt F) cc0_stg3_0 zeros2 inb f w

section Parts
variable (S : Dev nD → Vec F S8x48x512 .bf16) (K : Dev nD × Fin 16 → ℕ)
variable (c : Dev nD) (rt : Vec F S1024x1 .i32) (x : Vec F S1024x256 .f32) (w : Vec F S4x256x512 .f32) (W : Waits sig Unit)

theorem part13 (fr : Vec F S1024x32 .f32) {Q : (Σ' (v445 : BitVec 32) (v447 : Vec F S128x32 .f32) (v461 : FVec F S128x32 .f32) (v464 : FVec F S1x32 .f32) (v465 : IVec S32x32 32) (v466 : IVec S32x32 32) (c4_i32_240 : BitVec 32) (v468 : IVec S32x32 32) (v475 : IVec S32x32 32) (v477 : BitVec 32), BitVec 32) → sProp 𝕄} :
    iprop(rtP c rt ∗ rankP c fr) ⊢ iprop((rtP c rt ∗ rankP c (rankV rt)
        -∗ Q ⟨Scalar.muli (val2 c) 128#32, val447 c rt, val461 c rt, val464 c rt, val465, val466, 4#32, k0_pay40, k0_pay41, val477, val479⟩)
      -∗ wpc (F := F) c (k0_part13 (F := F) xM (Memref.isWhole_whole _) rtM (Memref.isWhole_whole _) wM (Memref.isWhole_whole _) oM (Memref.isWhole_whole _) rankM (Memref.isWhole_whole _) yM (Memref.isWhole_whole _) sM (Memref.isWhole_whole _) vM (Memref.isWhole_whole _) cc0_scratch4 cc0_scratch5 c (val2 c) (val4 rt) (val20 (F := F)) val434) Q) := by
  simp only [k0_part13_eq_skeleton]; unfold k0_part13_skel
  simp only [Prog.lift, Prog.bind_op, Prog.bind_ret, Prog.pure_eq_ret]
  iintro ⟨Hr, Hk4⟩ Hk
  iapply (wp_load 𝒱₀ (c : Thread nD τ) none Set.univ (m := rankM) (Finset.subset_univ _)) $$ Hk4; iintro Hk4
  iapply (wp_store 𝒱₀ (c : Thread nD τ) none Set.univ (m := rankM) (r := Rect.unit (s := S1024x32) ![0, 0] S1024x32.size inb_S1024x32_S1024x32_0_0) (Mk := Finset.univ) (Finset.subset_univ _)) $$ Hk4; iintro Hk4
  rw [write_rank]
  iapply (wp_load 𝒱₀ (c : Thread nD τ) none Set.univ (m := rankM) (Finset.subset_univ _)) $$ Hk4; iintro Hk4
  iapply (wp_load 𝒱₀ (c : Thread nD τ) none Set.univ (m := rtM) (Finset.subset_univ _)) $$ Hr; iintro Hr
  try unfold wpc
  rw [wp_ret]; imodintro
  refine (?_ : Entails' _ (Q ⟨Scalar.muli (val2 c) 128#32, val447 c rt, val461 c rt, val464 c rt, val465, val466, 4#32, k0_pay40, k0_pay41, val477, val479⟩))
  iapply Hk
  isplitl [Hr]; · iexact Hr
  unfold rankV
  iexact Hk4

theorem part14 {Q : (Σ' (v522 : FVec F S1x32 .f32) (v526 : FVec F S1x32 .f32), F .bf16) → sProp 𝕄} :
    rankP c (rankV rt) ⊢ iprop((rankP c (rankV rt) -∗ Q ⟨val522 c rt, val526 c rt, val257⟩)
      -∗ wpc (F := F) c (k0_part14 (F := F) xM (Memref.isWhole_whole _) rtM (Memref.isWhole_whole _) wM (Memref.isWhole_whole _) oM (Memref.isWhole_whole _) rankM (Memref.isWhole_whole _) yM (Memref.isWhole_whole _) sM (Memref.isWhole_whole _) vM (Memref.isWhole_whole _) cc0_scratch4 cc0_scratch5 c (Scalar.muli (val2 c) 128#32) (val464 c rt) val465 val466 4#32 k0_pay40 k0_pay41 val477 val479) Q) := by
  simp only [k0_part14_eq_skeleton]; unfold k0_part14_skel
  simp only [Prog.lift, Prog.bind_op, Prog.bind_ret, Prog.pure_eq_ret]
  iintro Hr Hk
  iapply (wp_load 𝒱₀ (c : Thread nD τ) none Set.univ (m := rankM) (Finset.subset_univ _)) $$ Hr; iintro Hr
  try unfold wpc
  rw [wp_ret]; imodintro
  refine (?_ : Entails' _ (Q ⟨val522 c rt, val526 c rt, val257⟩))
  iapply Hk
  iexact Hr

theorem part15 {Q : (Σ' (v534 : FVec F S128x1 .f32) (v564 : FVec F S128x1 .f32) (v566 : FVec F S128x1 .f32) (v567 : IVec S128x384 32) (c48_i32_268 : BitVec 32) (v569 : IVec S128x384 32) (v572 : IVec S128x384 32), IVec S128x384 32) → sProp 𝕄} :
    Q ⟨val534 c rt, val564 c rt, val566 c rt, val567, 48#32, k0_pay48, k0_pay49, k0_pay50⟩
      ⊢ wpc (F := F) c (k0_part15 (F := F) xM (Memref.isWhole_whole _) rtM (Memref.isWhole_whole _) wM (Memref.isWhole_whole _) oM (Memref.isWhole_whole _) rankM (Memref.isWhole_whole _) yM (Memref.isWhole_whole _) sM (Memref.isWhole_whole _) vM (Memref.isWhole_whole _) cc0_scratch4 cc0_scratch5 (val447 c rt) (val461 c rt) (val522 c rt) (val526 c rt) val257) Q := by
  simp only [k0_part15_eq_skeleton]; unfold k0_part15_skel
  simp only [Prog.pure_eq_ret]
  iintro Hk
  unfold wpc
  rw [wp_ret]; imodintro
  refine (?_ : Entails' _ (Q ⟨val534 c rt, val564 c rt, val566 c rt, val567, 48#32, k0_pay48, k0_pay49, k0_pay50⟩))
  iexact Hk

theorem part16 {Q : FVec F S128x384 .bf16 → sProp 𝕄} :
    Q (pickV c rt)
      ⊢ wpc (F := F) c (k0_part16 (F := F) xM (Memref.isWhole_whole _) rtM (Memref.isWhole_whole _) wM (Memref.isWhole_whole _) oM (Memref.isWhole_whole _) rankM (Memref.isWhole_whole _) yM (Memref.isWhole_whole _) sM (Memref.isWhole_whole _) vM (Memref.isWhole_whole _) cc0_scratch4 cc0_scratch5 (val2 c) (val346 c) (val534 c rt) (val564 c rt) (val566 c rt) val567 48#32 k0_pay48 k0_pay49 k0_pay50) Q := by
  simp only [k0_part16_eq_skeleton]; unfold k0_part16_skel
  simp only [Prog.pure_eq_ret]
  iintro Hk
  unfold wpc
  rw [wp_ret]; imodintro
  refine (?_ : Entails' _ (Q (pickV c rt)))
  iexact Hk

/-- What the wait for arrival `i` takes and what it gives back. -/
abbrev due (i : Fin 7) : sProp 𝕄 := iprop(cred (tallyAt (recvCell c i) () N) ∗ atPos ER (recvCell c i) 0 ∅ 0)
abbrev came (i : Fin 7) : sProp 𝕄 := iprop(semVal (recvCell c i) 0 ∗ vPts c i.succ (landed S c))
/-- What the wait for the return of copy `i` takes and what it gives back. -/
abbrev outgo (i : Fin 7) : sProp 𝕄 := iprop(cred (tallyAt (sendCell c i) () N) ∗ atPos ER (sendCell c i) 0 ∅ 0)
abbrev freed (i : Fin 7) : sProp 𝕄 := iprop(semVal (sendCell c i) 0 ∗ sPts c i.succ (S c))
/-- The set of waits after one more arrival, and after one more return. -/
abbrev addR (i : Fin 7) (W : Waits sig Unit) : Waits sig Unit := insert (SemLoc.dma (recvS i), ()) W
abbrev addS (i : Fin 7) (W : Waits sig Unit) : Waits sig Unit := insert (SemLoc.dma (sendS i), ()) W

theorem part17 (v358 v370 v382 : BitVec 32) {Q : PUnit → sProp 𝕄} :
    iprop(records S K ∗ owes (c : Thread nD τ) 0 W ∗ due c 0 ∗ due c 1 ∗ due c 2)
      ⊢ iprop((owes (c : Thread nD τ) 0 (addR 2 (addR 1 (addR 0 W))) ∗ came S c 0 ∗ came S c 1 ∗ came S c 2 -∗ Q ⟨⟩)
      -∗ wpc (F := F) c (k0_part17 (F := F) xM (Memref.isWhole_whole _) rtM (Memref.isWhole_whole _) wM (Memref.isWhole_whole _) oM (Memref.isWhole_whole _) rankM (Memref.isWhole_whole _) yM (Memref.isWhole_whole _) sM (Memref.isWhole_whole _) vM (Memref.isWhole_whole _) cc0_scratch4 cc0_scratch5 v358 v370 v382) Q) := by
  simp only [k0_part17_eq_skeleton]; unfold k0_part17_skel
  simp only [recv0_eq, recv1_eq, recv2_eq, recv3_eq, recv4_eq, recv5_eq, recv6_eq, Prog.lift, Prog.bind_op, Prog.bind_ret, Prog.pure_eq_ret]
  iintro ⟨#HR, HO, ⟨Hc0, Ha0⟩, ⟨Hc1, Ha1⟩, ⟨Hc2, Ha2⟩⟩ Hk
  iapply (arrive_step S K c 0 (k := 1) rfl _) $$ [Hc0 HO Ha0]
  · isplitr; · iexact HR
    isplitl [Hc0]; · iexact Hc0
    isplitl [HO] <;> iassumption
  iintro ⟨HO, Hz0, Hv0⟩
  iapply (arrive_step S K c 1 (k := 2) rfl _) $$ [Hc1 HO Ha1]
  · isplitr; · iexact HR
    isplitl [Hc1]; · iexact Hc1
    isplitl [HO] <;> iassumption
  iintro ⟨HO, Hz1, Hv1⟩
  iapply (arrive_step S K c 2 (k := 3) rfl _) $$ [Hc2 HO Ha2]
  · isplitr; · iexact HR
    isplitl [Hc2]; · iexact Hc2
    isplitl [HO] <;> iassumption
  iintro ⟨HO, Hz2, Hv2⟩
  try unfold wpc
  rw [wp_ret]; imodintro
  iapply Hk
  isplitl [HO]; · iexact HO
  isplitl [Hz0 Hv0]
  · isplitl [Hz0] <;> iassumption
  isplitl [Hz1 Hv1]
  · isplitl [Hz1] <;> iassumption
  isplitl [Hz2] <;> iassumption

theorem part18 (v394 v406 v418 : BitVec 32) {Q : PUnit → sProp 𝕄} :
    iprop(records S K ∗ owes (c : Thread nD τ) 0 W ∗ due c 3 ∗ due c 4 ∗ due c 5 ∗ due c 6)
      ⊢ iprop((owes (c : Thread nD τ) 0 (addR 6 (addR 5 (addR 4 (addR 3 W)))) ∗ came S c 3 ∗ came S c 4 ∗ came S c 5 ∗ came S c 6 -∗ Q ⟨⟩)
      -∗ wpc (F := F) c (k0_part18 (F := F) xM (Memref.isWhole_whole _) rtM (Memref.isWhole_whole _) wM (Memref.isWhole_whole _) oM (Memref.isWhole_whole _) rankM (Memref.isWhole_whole _) yM (Memref.isWhole_whole _) sM (Memref.isWhole_whole _) vM (Memref.isWhole_whole _) cc0_scratch4 cc0_scratch5 v394 v406 v418) Q) := by
  simp only [k0_part18_eq_skeleton]; unfold k0_part18_skel
  simp only [recv0_eq, recv1_eq, recv2_eq, recv3_eq, recv4_eq, recv5_eq, recv6_eq, Prog.lift, Prog.bind_op, Prog.bind_ret, Prog.pure_eq_ret]
  iintro ⟨#HR, HO, ⟨Hc3, Ha3⟩, ⟨Hc4, Ha4⟩, ⟨Hc5, Ha5⟩, ⟨Hc6, Ha6⟩⟩ Hk
  iapply (arrive_step S K c 3 (k := 4) rfl _) $$ [Hc3 HO Ha3]
  · isplitr; · iexact HR
    isplitl [Hc3]; · iexact Hc3
    isplitl [HO] <;> iassumption
  iintro ⟨HO, Hz3, Hv3⟩
  iapply (arrive_step S K c 4 (k := 5) rfl _) $$ [Hc4 HO Ha4]
  · isplitr; · iexact HR
    isplitl [Hc4]; · iexact Hc4
    isplitl [HO] <;> iassumption
  iintro ⟨HO, Hz4, Hv4⟩
  iapply (arrive_step S K c 5 (k := 6) rfl _) $$ [Hc5 HO Ha5]
  · isplitr; · iexact HR
    isplitl [Hc5]; · iexact Hc5
    isplitl [HO] <;> iassumption
  iintro ⟨HO, Hz5, Hv5⟩
  iapply (arrive_step S K c 6 (k := 7) rfl _) $$ [Hc6 HO Ha6]
  · isplitr; · iexact HR
    isplitl [Hc6]; · iexact Hc6
    isplitl [HO] <;> iassumption
  iintro ⟨HO, Hz6, Hv6⟩
  try unfold wpc
  rw [wp_ret]; imodintro
  iapply Hk
  isplitl [HO]; · iexact HO
  isplitl [Hz3 Hv3]
  · isplitl [Hz3] <;> iassumption
  isplitl [Hz4 Hv4]
  · isplitl [Hz4] <;> iassumption
  isplitl [Hz5 Hv5]
  · isplitl [Hz5] <;> iassumption
  isplitl [Hz6] <;> iassumption

/-- The contents of the received slots. -/
abbrev vAll (f : Vec F S8x48x512 .bf16) : sProp 𝕄 := (((c : Thread nD τ).loc cc0_scratch3) ↦{fullShare} f)

theorem part19 (fo : Vec F S128x512 .f32) {Q : PUnit → sProp 𝕄} :
    iprop(records S K ∗ owes (c : Thread nD τ) 0 W ∗ oP c fo ∗ vAll c (landed S c) ∗ outgo (F := F) c 0 ∗ outgo (F := F) c 1 ∗ outgo (F := F) c 2)
      ⊢ iprop((owes (c : Thread nD τ) 0 (addS 2 (addS 1 (addS 0 W))) ∗ oP c (k0_pay52 (pickV c rt) (landed S c)) ∗ vAll c (landed S c)
          ∗ freed S c 0 ∗ freed S c 1 ∗ freed S c 2 -∗ Q ⟨⟩)
      -∗ wpc (F := F) c (k0_part19 (F := F) xM (Memref.isWhole_whole _) rtM (Memref.isWhole_whole _) wM (Memref.isWhole_whole _) oM (Memref.isWhole_whole _) rankM (Memref.isWhole_whole _) yM (Memref.isWhole_whole _) sM (Memref.isWhole_whole _) vM (Memref.isWhole_whole _) cc0_scratch4 cc0_scratch5 (pickV c rt)) Q) := by
  simp only [k0_part19_eq_skeleton]; unfold k0_part19_skel
  simp only [send0_eq, send1_eq, send2_eq, send3_eq, send4_eq, send5_eq, send6_eq, Prog.lift, Prog.bind_op, Prog.bind_ret, Prog.pure_eq_ret]
  iintro ⟨#HR, HO, Ho, Hv, ⟨Hc0, Ha0⟩, ⟨Hc1, Ha1⟩, ⟨Hc2, Ha2⟩⟩ Hk
  iapply (wp_load 𝒱₀ (c : Thread nD τ) none Set.univ (m := vM) (Finset.subset_univ _)) $$ Hv; iintro Hv
  iapply (wp_load 𝒱₀ (c : Thread nD τ) none Set.univ (m := oM) (Finset.subset_univ _)) $$ Ho; iintro Ho
  rw [read_v]
  iapply (wp_store 𝒱₀ (c : Thread nD τ) none Set.univ (m := oM) (r := Rect.unit (s := S128x512) ![0, 0] S128x512.size inb_S128x512_S128x512_0_0) (Mk := Finset.univ) (Finset.subset_univ _)) $$ Ho; iintro Ho
  rw [write_o]
  iapply (return_step S K c 0 (k := 1) rfl _) $$ [Hc0 HO Ha0]
  · isplitr; · iexact HR
    isplitl [Hc0]; · iexact Hc0
    isplitl [HO] <;> iassumption
  iintro ⟨HO, Hz0, Hs0⟩
  iapply (return_step S K c 1 (k := 2) rfl _) $$ [Hc1 HO Ha1]
  · isplitr; · iexact HR
    isplitl [Hc1]; · iexact Hc1
    isplitl [HO] <;> iassumption
  iintro ⟨HO, Hz1, Hs1⟩
  iapply (return_step S K c 2 (k := 3) rfl _) $$ [Hc2 HO Ha2]
  · isplitr; · iexact HR
    isplitl [Hc2]; · iexact Hc2
    isplitl [HO] <;> iassumption
  iintro ⟨HO, Hz2, Hs2⟩
  try unfold wpc
  rw [wp_ret]; imodintro
  iapply Hk
  isplitl [HO]; · iexact HO
  isplitl [Ho]; · iexact Ho
  isplitl [Hv]; · iexact Hv
  isplitl [Hz0 Hs0]
  · isplitl [Hz0] <;> iassumption
  isplitl [Hz1 Hs1]
  · isplitl [Hz1] <;> iassumption
  isplitl [Hz2] <;> iassumption

theorem part20 {Q : PUnit → sProp 𝕄} :
    iprop(records S K ∗ owes (c : Thread nD τ) 0 W ∗ outgo (F := F) c 3 ∗ outgo (F := F) c 4 ∗ outgo (F := F) c 5)
      ⊢ iprop((owes (c : Thread nD τ) 0 (addS 5 (addS 4 (addS 3 W))) ∗ freed S c 3 ∗ freed S c 4 ∗ freed S c 5 -∗ Q ⟨⟩)
      -∗ wpc (F := F) c (k0_part20 (F := F) xM (Memref.isWhole_whole _) rtM (Memref.isWhole_whole _) wM (Memref.isWhole_whole _) oM (Memref.isWhole_whole _) rankM (Memref.isWhole_whole _) yM (Memref.isWhole_whole _) sM (Memref.isWhole_whole _) vM (Memref.isWhole_whole _) cc0_scratch4 cc0_scratch5) Q) := by
  simp only [k0_part20_eq_skeleton]; unfold k0_part20_skel
  simp only [send0_eq, send1_eq, send2_eq, send3_eq, send4_eq, send5_eq, send6_eq, Prog.lift, Prog.bind_op, Prog.bind_ret, Prog.pure_eq_ret]
  iintro ⟨#HR, HO, ⟨Hc3, Ha3⟩, ⟨Hc4, Ha4⟩, ⟨Hc5, Ha5⟩⟩ Hk
  iapply (return_step S K c 3 (k := 4) rfl _) $$ [Hc3 HO Ha3]
  · isplitr; · iexact HR
    isplitl [Hc3]; · iexact Hc3
    isplitl [HO] <;> iassumption
  iintro ⟨HO, Hz3, Hs3⟩
  iapply (return_step S K c 4 (k := 5) rfl _) $$ [Hc4 HO Ha4]
  · isplitr; · iexact HR
    isplitl [Hc4]; · iexact Hc4
    isplitl [HO] <;> iassumption
  iintro ⟨HO, Hz4, Hs4⟩
  iapply (return_step S K c 5 (k := 6) rfl _) $$ [Hc5 HO Ha5]
  · isplitr; · iexact HR
    isplitl [Hc5]; · iexact Hc5
    isplitl [HO] <;> iassumption
  iintro ⟨HO, Hz5, Hs5⟩
  try unfold wpc
  rw [wp_ret]; imodintro
  iapply Hk
  isplitl [HO]; · iexact HO
  isplitl [Hz3 Hs3]
  · isplitl [Hz3] <;> iassumption
  isplitl [Hz4 Hs4]
  · isplitl [Hz4] <;> iassumption
  isplitl [Hz5] <;> iassumption

end Parts

end Cert.KernelIdeal.Run

end
-- ==== Proof.BodyD.lean ====
/-
The body as a whole: the twenty parts put together, and the last return.
-/
module

public import proofs.«01_k».proof.Proof.BodyC

@[expose] public section

noncomputable section

namespace Cert.KernelIdeal.Run

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (S : Dev nD → Vec F S8x48x512 .bf16) (K : Dev nD × Fin 16 → ℕ) (c : Dev nD)
variable (rt : Vec F S1024x1 .i32) (x : Vec F S1024x256 .f32) (w : Vec F S4x256x512 .f32)

omit [FloatOps F] in
theorem cells16 (Φ : GSem nD τ sig → sProp 𝕄) :
    (bigSep Finset.univ fun k : Fin 16 => Φ (kcell (c, k)))
      = iprop(Φ (barCell c) ∗ Φ (sendCell c 0) ∗ Φ (sendCell c 1) ∗ Φ (sendCell c 2) ∗ Φ (sendCell c 3) ∗ Φ (sendCell c 4) ∗ Φ (sendCell c 5) ∗ Φ (sendCell c 6)
        ∗ Φ (kcell (c, 8)) ∗ Φ (recvCell c 0) ∗ Φ (recvCell c 1) ∗ Φ (recvCell c 2) ∗ Φ (recvCell c 3) ∗ Φ (recvCell c 4) ∗ Φ (recvCell c 5) ∗ Φ (recvCell c 6)) := by
  simp only [← kcell_send, ← kcell_recv, ← kcell_bar]
  exact bigSep_univ_eq_bigSepL [0, 1, 2, 3, 4, 5, 6, 7, 8, 9, 10, 11, 12, 13, 14, 15] (by decide) (by decide) _

omit [FloatOps F] in
/-- The arrival semaphore no copy uses has no duty at all. -/
theorem duties_unused : ∀ r, 0 ≤ r → (rd (F := F) S).duties (kcell (c, 8)) r = ∅ := fun r _ => by
  dsimp only [rd]
  split
  · rfl
  · rfl

/-- The tokens of the duties device `c` pays. -/
def payToks : sProp 𝕄 :=
  iprop((bigSep Finset.univ fun j : Fin 7 => dutyTok ER (barCell (up j c)) 0 j.rev)
    ∗ (bigSep Finset.univ fun i : Fin 7 => dutyTok ER (sendCell c i) 0 0)
    ∗ bigSep Finset.univ fun i : Fin 7 => dutyTok ER (recvCell (up i c) i) 0 0)

/-- The send and the receive buffer, whole. -/
abbrev sAll (f : Vec F S8x48x512 .bf16) : sProp 𝕄 := (((c : Thread nD τ).loc cc0_scratch2) ↦{fullShare} f)

/-- What the body starts from. -/
def bodyIn (W : Waits sig Unit) (fo : Vec F S128x512 .f32) (fr : Vec F S1024x32 .f32) (fy : Vec F S128x512 .bf16) (fs fv : Vec F S8x48x512 .bf16) : sProp 𝕄 :=
  iprop(records S K ∗ levAts L lv ∗ owes (c : Thread nD τ) (owed c 0 0) W
    ∗ xP c x ∗ rtP c rt ∗ wP c w ∗ oP c fo ∗ rankP c fr ∗ yP c fy ∗ sAll c fs ∗ vAll c fv
    ∗ cred (tallyAt (barCell c) () 7) ∗ (bigSep Finset.univ fun i : Fin 7 => cred (tallyAt (recvCell c i) () N))
    ∗ (bigSep Finset.univ fun k : Fin 16 => atPos ER (kcell (c, k)) 0 ∅ 0) ∗ payToks c)

/-- What it ends with: its output, its operands unchanged, nothing owed, every counter at zero. -/
def bodyOut : sProp 𝕄 :=
  iprop((∃ W', owes (c : Thread nD τ) 0 W')
    ∗ xP c x ∗ rtP c rt ∗ wP c w ∗ oP c (k0_pay52 (pickV c rt) (landed S c)) ∗ (∃ f, rankP c f) ∗ (∃ f, yP c f) ∗ sAll c (S c) ∗ vAll c (landed S c)
    ∗ bigSep Finset.univ fun k : Fin 16 => semVal (kcell (c, k)) 0)

omit [FloatOps F] in
theorem vAll_join (f : Vec F S8x48x512 .bf16) :
    iprop(vPts c 0 f ∗ vPts c 1 f ∗ vPts c 2 f ∗ vPts c 3 f ∗ vPts c 4 f ∗ vPts c 5 f ∗ vPts c 6 f ∗ vPts c 7 f) ⊢ (vAll c f : sProp 𝕄) := by
  unfold vAll; rw [vPts_split, bigSep_fin8]
omit [FloatOps F] in
theorem sAll_join (f : Vec F S8x48x512 .bf16) :
    iprop(sPts c 0 f ∗ sPts c 1 f ∗ sPts c 2 f ∗ sPts c 3 f ∗ sPts c 4 f ∗ sPts c 5 f ∗ sPts c 6 f ∗ sPts c 7 f) ⊢ (sAll c f : sProp 𝕄) := by
  unfold sAll; rw [sPts_split, bigSep_fin8]

set_option maxHeartbeats 1600000 in
theorem body (hS : S c = sendV c rt x w) (W : Waits sig Unit) (fo : Vec F S128x512 .f32) (fr : Vec F S1024x32 .f32) (fy : Vec F S128x512 .bf16) (fs fv : Vec F S8x48x512 .bf16)
    {Q : PUnit → sProp 𝕄} :
    bodyIn S K c rt x w W fo fr fy fs fv ⊢ iprop((bodyOut S c rt x w -∗ Q ⟨⟩) -∗ wpc (F := F) c (cc0_body (F := F) xM (Memref.isWhole_whole _) rtM (Memref.isWhole_whole _) wM (Memref.isWhole_whole _) oM (Memref.isWhole_whole _) rankM (Memref.isWhole_whole _) yM (Memref.isWhole_whole _) sM (Memref.isWhole_whole _) vM (Memref.isWhole_whole _) cc0_scratch4 cc0_scratch5) Q) := by
  simp only [cc0_body_eq_skeleton]; unfold cc0_body_skel
  unfold bodyIn payToks sAll vAll
  rw [cells16 c (fun g => (atPos ER g 0 ∅ 0 : sProp 𝕄)), bigSep_fin7, bigSep_fin7, bigSep_fin7, bigSep_fin7, sPts_split, vPts_split, bigSep_fin8, bigSep_fin8]
  iintro ⟨#HR, #Hl, HO, Hx, Hrt, Hw, Ho, Hrk, Hy, ⟨Hs0, Hs1, Hs2, Hs3, Hs4, Hs5, Hs6, Hs7⟩, ⟨Hv0, Hv1, Hv2, Hv3, Hv4, Hv5, Hv6, Hv7⟩, HcB,
    ⟨Hc0, Hc1, Hc2, Hc3, Hc4, Hc5, Hc6⟩, ⟨HaB, HaS0, HaS1, HaS2, HaS3, HaS4, HaS5, HaS6, HaU, HaR0, HaR1, HaR2, HaR3, HaR4, HaR5, HaR6⟩,
    ⟨Hb0, Hb1, Hb2, Hb3, Hb4, Hb5, Hb6⟩, ⟨Ht0, Ht1, Ht2, Ht3, Ht4, Ht5, Ht6⟩, ⟨Hu0, Hu1, Hu2, Hu3, Hu4, Hu5, Hu6⟩⟩ Hk
  try unfold wpc
  rw [wp_bind]
  iapply (part1 c rt) $$ Hrt; iintro Hrt
  try unfold wpc
  rw [wp_bind]
  iapply (part2 c rt x w fy) $$ [Hx Hw Hy]
  · isplitl [Hx]
    · iexact Hx
    isplitl [Hw]
    · iexact Hw
    iexact Hy
  iintro ⟨Hx, Hw, Hy⟩
  try unfold wpc
  rw [wp_bind]
  iapply (part3 c rt x w fy) $$ [Hw Hy]
  · isplitl [Hw]
    · iexact Hw
    iexact Hy
  iintro ⟨Hw, Hy⟩
  try unfold wpc
  rw [wp_bind]
  iapply (part4 c rt)
  try unfold wpc
  rw [wp_bind]
  iapply (part5 c rt)
  try unfold wpc
  rw [wp_bind]
  iapply (part6 c rt x w fs) $$ [Hy Hs0]
  · isplitl [Hy]
    · iexact Hy
    iexact Hs0
  iintro ⟨Hy, Hs0⟩
  try unfold wpc
  rw [wp_bind]
  iapply (part7 c rt x w fs) $$ [Hy Hs1 Hs2 Hs3 Hs4]
  · isplitl [Hy]
    · iexact Hy
    isplitl [Hs1]
    · iexact Hs1
    isplitl [Hs2]
    · iexact Hs2
    isplitl [Hs3]
    · iexact Hs3
    iexact Hs4
  iintro ⟨Hy, Hs1, Hs2, Hs3, Hs4⟩
  try unfold wpc
  rw [wp_bind]
  iapply (part8 S K c rt x w W fs) $$ [Hy Hs5 Hs6 Hs7 HO Hb0 Hv7 Hb1 Hv6]
  · isplitr
    · iexact HR
    isplitl [Hy]
    · iexact Hy
    isplitl [Hs5]
    · iexact Hs5
    isplitl [Hs6]
    · iexact Hs6
    isplitl [Hs7]
    · iexact Hs7
    isplitl [HO]
    · iexact HO
    isplitl [Hb0 Hv7]
    · isplitl [Hb0]
      · iexact Hb0
      iexists _; iexact Hv7
    isplitl [Hb1]
    · iexact Hb1
    iexists _; iexact Hv6
  iintro ⟨Hy, Hs5, Hs6, Hs7, HO⟩
  try unfold wpc
  rw [wp_bind]
  iapply (part9 S K c W) $$ [HO Hb2 Hv5 Hb3 Hv4 Hb4 Hv3 Hb5 Hv2 Hb6 Hv1 HcB HaB]
  · isplitr
    · iexact HR
    isplitr
    · iexact Hl
    isplitl [HO]
    · iexact HO
    isplitl [Hb2 Hv5 Hb3 Hv4 Hb4 Hv3 Hb5 Hv2 Hb6 Hv1]
    · isplitl [Hb2 Hv5]
      · isplitl [Hb2]
        · iexact Hb2
        iexists _; iexact Hv5
      isplitl [Hb3 Hv4]
      · isplitl [Hb3]
        · iexact Hb3
        iexists _; iexact Hv4
      isplitl [Hb4 Hv3]
      · isplitl [Hb4]
        · iexact Hb4
        iexists _; iexact Hv3
      isplitl [Hb5 Hv2]
      · isplitl [Hb5]
        · iexact Hb5
        iexists _; iexact Hv2
      isplitl [Hb6]
      · iexact Hb6
      iexists _; iexact Hv1
    isplitl [HcB]
    · iexact HcB
    iexact HaB
  iintro ⟨HO, HaB, Hd⟩
  ihave Hd := (Entails.of_eq (bigSep_fin7 (fun j : Fin 7 => iprop(∃ f, vPts (F := F) (up j c) j.succ f)))) $$ Hd
  icases Hd with ⟨Hd0, Hd1, Hd2, Hd3, Hd4, Hd5, Hd6⟩
  rw [← hS]
  try unfold wpc
  rw [wp_bind]
  iapply (part10 S K c _ _) $$ [HO Hs1 Hd0 Ht0 Hu0 Hs2 Hd1 Ht1 Hu1]
  · isplitr
    · iexact HR
    isplitl [HO]
    · iexact HO
    isplitl [Hs1 Hd0 Ht0 Hu0]
    · isplitl [Hs1]
      · iexact Hs1
      isplitl [Hd0]
      · iexact Hd0
      isplitl [Ht0]
      · iexact Ht0
      iexact Hu0
    isplitl [Hs2]
    · iexact Hs2
    isplitl [Hd1]
    · iexact Hd1
    isplitl [Ht1]
    · iexact Ht1
    iexact Hu1
  iintro ⟨HO, Hr0, Hr1⟩
  try unfold wpc
  rw [wp_bind]
  iapply (part11 S K c _) $$ [HO Hs3 Hd2 Ht2 Hu2 Hs4 Hd3 Ht3 Hu3 Hs5 Hd4 Ht4 Hu4]
  · isplitr
    · iexact HR
    isplitl [HO]
    · iexact HO
    isplitl [Hs3 Hd2 Ht2 Hu2]
    · isplitl [Hs3]
      · iexact Hs3
      isplitl [Hd2]
      · iexact Hd2
      isplitl [Ht2]
      · iexact Ht2
      iexact Hu2
    isplitl [Hs4 Hd3 Ht3 Hu3]
    · isplitl [Hs4]
      · iexact Hs4
      isplitl [Hd3]
      · iexact Hd3
      isplitl [Ht3]
      · iexact Ht3
      iexact Hu3
    isplitl [Hs5]
    · iexact Hs5
    isplitl [Hd4]
    · iexact Hd4
    isplitl [Ht4]
    · iexact Ht4
    iexact Hu4
  iintro ⟨HO, Hr2, Hr3, Hr4⟩
  try unfold wpc
  rw [wp_bind]
  iapply (part12 S K c _ _ _ fv) $$ [HO Hs6 Hd5 Ht5 Hu5 Hs7 Hd6 Ht6 Hu6 Hs0 Hv0]
  · isplitr
    · iexact HR
    isplitl [HO]
    · iexact HO
    isplitl [Hs6 Hd5 Ht5 Hu5]
    · isplitl [Hs6]
      · iexact Hs6
      isplitl [Hd5]
      · iexact Hd5
      isplitl [Ht5]
      · iexact Ht5
      iexact Hu5
    isplitl [Hs7 Hd6 Ht6 Hu6]
    · isplitl [Hs7]
      · iexact Hs7
      isplitl [Hd6]
      · iexact Hd6
      isplitl [Ht6]
      · iexact Ht6
      iexact Hu6
    isplitl [Hs0]
    · iexact Hs0
    iexact Hv0
  iintro ⟨HO, Hr5, Hr6, Hs0, Hv0⟩
  try unfold wpc
  rw [wp_bind]
  iapply (part13 c rt fr) $$ [Hrt Hrk]
  · isplitl [Hrt]
    · iexact Hrt
    iexact Hrk
  iintro ⟨Hrt, Hrk⟩
  try unfold wpc
  rw [wp_bind]
  iapply (part14 c rt) $$ Hrk; iintro Hrk
  try unfold wpc
  rw [wp_bind]
  iapply (part15 c rt)
  try unfold wpc
  rw [wp_bind]
  iapply (part16 c rt)
  try unfold wpc
  rw [wp_bind]
  iapply (part17 S K c _ _ _ _) $$ [HO Hc0 HaR0 Hc1 HaR1 Hc2 HaR2]
  · isplitr
    · iexact HR
    isplitl [HO]
    · iexact HO
    isplitl [Hc0 HaR0]
    · isplitl [Hc0]
      · iexact Hc0
      iexact HaR0
    isplitl [Hc1 HaR1]
    · isplitl [Hc1]
      · iexact Hc1
      iexact HaR1
    isplitl [Hc2]
    · iexact Hc2
    iexact HaR2
  iintro ⟨HO, ⟨Hz9, Hv1⟩, ⟨Hz10, Hv2⟩, ⟨Hz11, Hv3⟩⟩
  try unfold wpc
  rw [wp_bind]
  iapply (part18 S K c _ _ _ _) $$ [HO Hc3 HaR3 Hc4 HaR4 Hc5 HaR5 Hc6 HaR6]
  · isplitr
    · iexact HR
    isplitl [HO]
    · iexact HO
    isplitl [Hc3 HaR3]
    · isplitl [Hc3]
      · iexact Hc3
      iexact HaR3
    isplitl [Hc4 HaR4]
    · isplitl [Hc4]
      · iexact Hc4
      iexact HaR4
    isplitl [Hc5 HaR5]
    · isplitl [Hc5]
      · iexact Hc5
      iexact HaR5
    isplitl [Hc6]
    · iexact Hc6
    iexact HaR6
  iintro ⟨HO, ⟨Hz12, Hv4⟩, ⟨Hz13, Hv5⟩, ⟨Hz14, Hv6⟩, ⟨Hz15, Hv7⟩⟩
  ihave Hv := (vAll_join c (landed S c)) $$ [Hv0 Hv1 Hv2 Hv3 Hv4 Hv5 Hv6 Hv7]
  · isplitl [Hv0]; · iexact Hv0
    isplitl [Hv1]; · iexact Hv1
    isplitl [Hv2]; · iexact Hv2
    isplitl [Hv3]; · iexact Hv3
    isplitl [Hv4]; · iexact Hv4
    isplitl [Hv5]; · iexact Hv5
    isplitl [Hv6]; · iexact Hv6
    iexact Hv7
  try unfold wpc
  rw [wp_bind]
  iapply (part19 S K c rt _ fo) $$ [HO Ho Hv Hr0 HaS0 Hr1 HaS1 Hr2 HaS2]
  · isplitr
    · iexact HR
    isplitl [HO]
    · iexact HO
    isplitl [Ho]
    · iexact Ho
    isplitl [Hv]
    · iexact Hv
    isplitl [Hr0 HaS0]
    · isplitl [Hr0]
      · iexact Hr0
      iexact HaS0
    isplitl [Hr1 HaS1]
    · isplitl [Hr1]
      · iexact Hr1
      iexact HaS1
    isplitl [Hr2]
    · iexact Hr2
    iexact HaS2
  iintro ⟨HO, Ho, Hv, ⟨Hz1, Hs1⟩, ⟨Hz2, Hs2⟩, ⟨Hz3, Hs3⟩⟩
  try unfold wpc
  rw [wp_bind]
  iapply (part20 S K c _) $$ [HO Hr3 HaS3 Hr4 HaS4 Hr5 HaS5]
  · isplitr
    · iexact HR
    isplitl [HO]
    · iexact HO
    isplitl [Hr3 HaS3]
    · isplitl [Hr3]
      · iexact Hr3
      iexact HaS3
    isplitl [Hr4 HaS4]
    · isplitl [Hr4]
      · iexact Hr4
      iexact HaS4
    isplitl [Hr5]
    · iexact Hr5
    iexact HaS5
  iintro ⟨HO, ⟨Hz4, Hs4⟩, ⟨Hz5, Hs5⟩, ⟨Hz6, Hs6⟩⟩
  simp only [send0_eq, send1_eq, send2_eq, send3_eq, send4_eq, send5_eq, send6_eq, Prog.lift, Prog.bind_op, Prog.bind_ret, Prog.pure_eq_ret]
  iapply (return_step S K c 6 (k := 7) rfl _) $$ [Hr6 HO HaS6]
  · isplitr; · iexact HR
    isplitl [Hr6]; · iexact Hr6
    isplitl [HO] <;> iassumption
  iintro ⟨HO, Hz7, Hs7⟩
  imod (Rounds.cell_close ER (rd S) (Set.mem_univ (K (c, 0))) (fun h => h) (R := 0 + 1) (duties_later S (barCell c))) $$ [HaB] with Hz0
  · isplitr; · iapply (inv_bar S K c); iexact HR
    iexact HaB
  imod (Rounds.cell_close ER (rd S) (Set.mem_univ (K (c, 8))) (fun h => h) (R := 0) (duties_unused S c)) $$ [HaU] with Hz8
  · isplitr; · iapply (inv_at S K (c, 8)); iexact HR
    iexact HaU
  try unfold wpc
  rw [wp_ret]; imodintro
  iapply Hk
  unfold bodyOut
  rw [cells16 c (fun g => (semVal g 0 : sProp 𝕄))]
  ihave Hs := (sAll_join c (S c)) $$ [Hs0 Hs1 Hs2 Hs3 Hs4 Hs5 Hs6 Hs7]
  · isplitl [Hs0]; · iexact Hs0
    isplitl [Hs1]; · iexact Hs1
    isplitl [Hs2]; · iexact Hs2
    isplitl [Hs3]; · iexact Hs3
    isplitl [Hs4]; · iexact Hs4
    isplitl [Hs5]; · iexact Hs5
    isplitl [Hs6]; · iexact Hs6
    iexact Hs7
  isplitl [HO]; · iexists _; iexact HO
  isplitl [Hx]; · iexact Hx
  isplitl [Hrt]; · iexact Hrt
  isplitl [Hw]; · iexact Hw
  isplitl [Ho]; · iexact Ho
  isplitl [Hrk]; · iexists _; iexact Hrk
  isplitl [Hy]; · iexists _; iexact Hy
  isplitl [Hs]; · iexact Hs
  isplitl [Hv]; · iexact Hv
  isplitl [Hz0]; · iexact Hz0
  isplitl [Hz1]; · iexact Hz1
  isplitl [Hz2]; · iexact Hz2
  isplitl [Hz3]; · iexact Hz3
  isplitl [Hz4]; · iexact Hz4
  isplitl [Hz5]; · iexact Hz5
  isplitl [Hz6]; · iexact Hz6
  isplitl [Hz7]; · iexact Hz7
  isplitl [Hz8]; · iexact Hz8
  isplitl [Hz9]; · iexact Hz9
  isplitl [Hz10]; · iexact Hz10
  isplitl [Hz11]; · iexact Hz11
  isplitl [Hz12]; · iexact Hz12
  isplitl [Hz13]; · iexact Hz13
  isplitl [Hz14]; · iexact Hz14
  iexact Hz15

end Cert.KernelIdeal.Run

end
-- ==== Proof.Data.lean ====
/-
What each device's windows hold before and after the body, and the body as the pipeline asks for it.
-/
module

public import proofs.«01_k».proof.Proof.BodyD

@[expose] public section

noncomputable section

namespace Cert.KernelIdeal.Run

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- The memory at launch. -/
def start₀ : MemSt nD τ sig (Elt F) := ⟨m, fun _ => 0, ρ⟩

/-- The three operands of device `c`, as fetched. -/
def xAt (c : Dev nD) : Vec F S1024x256 .f32 := (win0_0.blk (0 : Fin 1)).view.read (Elt F) (m ((c : Thread nD τ).loc main_arg0))
def rtAt (c : Dev nD) : Vec F S1024x1 .i32 := (win0_1.blk (0 : Fin 1)).view.read (Elt F) (m ((c : Thread nD τ).loc main_arg2))
def wAt (c : Dev nD) : Vec F S4x256x512 .f32 := (win0_2.blk (0 : Fin 1)).view.read (Elt F) (m ((c : Thread nD τ).loc main_arg3))

/-- What device `c` sends, and what it writes out. -/
def sent (c : Dev nD) : Vec F S8x48x512 .bf16 := sendV c (rtAt m c) (xAt m c) (wAt m c)
def outAt (c : Dev nD) : Vec F S128x512 .f32 := k0_pay52 (pickV c (rtAt m c)) (landed (sent m) c)

/-- What device `c` knows and holds of the exchange when its body starts. -/
def ghost (K : Dev nD × Fin 16 → ℕ) (c : Dev nD) : sProp 𝕄 :=
  iprop(records (sent m) K ∗ (bigSep Finset.univ fun k : Fin 16 => atPos ER (kcell (c, k)) 0 ∅ 0) ∗ payToks c)

def credits (c : Dev nD) : sProp 𝕄 :=
  iprop(cred (tallyAt (barCell c) () 7) ∗ bigSep Finset.univ fun i : Fin 7 => cred (tallyAt (recvCell c i) () N))

def before0 (c : Dev nD) : sProp 𝕄 := iprop((∃ K, ghost m K c) ∗ credits c ∗ levAts L lv)

def Φ₀ (c : Dev nD) : sProp 𝕄 := iprop(before0 m c ∗ Pipeline.scopedRest cfg0.spec c)
def Φ₁ (c : Dev nD) : sProp 𝕄 := iprop(Pipeline.scopedRest cfg0.spec c ∗ bigSep Finset.univ fun k : Fin 16 => semVal (kcell (c, k)) 0)

def dats (_ : Fin 1) (c : Dev nD) : Dat τ (Elt F) Unit ℕ UU ℕ cfg0 c where
  A w := (start₀ m ρ).mem ((cfg0.win w).arr.view.loc (c : Thread nD τ))
  after w _ := match w with
    | ⟨0, _⟩ => xAt m c
    | ⟨1, _⟩ => rtAt m c
    | ⟨2, _⟩ => wAt m c
    | ⟨3, _⟩ => outAt m c
  Φ t := match t with
    | ⟨0, _⟩ => Φ₀ m c
    | ⟨_ + 1, _⟩ => Φ₁ c
  q _ := fullShare
  owed t := match t with
    | ⟨0, _⟩ => owed c 0 0
    | ⟨_ + 1, _⟩ => 0

omit [FloatOps F] in
theorem owns_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

abbrev t₀ : Fin cfg0.N := t0_0

def pointPre (c : Dev nD) : sProp 𝕄 :=
  iprop(Φ₀ m c ∗ (dats m ρ 0 c).owesAt () t₀.castSucc
    ∗ (∃ d, stg c cc0_stg0_0 ((dats m ρ 0 c).before (0 : Fin 4) t₀ d))
    ∗ (∃ d, stg c cc0_stg1_0 ((dats m ρ 0 c).before (1 : Fin 4) t₀ d))
    ∗ (∃ d, stg c cc0_stg2_0 ((dats m ρ 0 c).before (2 : Fin 4) t₀ d))
    ∗ (∃ d, stg c cc0_stg3_0 ((dats m ρ 0 c).before (3 : Fin 4) t₀ d)))

def pointPost (c : Dev nD) : sProp 𝕄 :=
  iprop(Φ₁ c ∗ (dats m ρ 0 c).owesAt () t₀.succ
    ∗ stg c cc0_stg0_0 (xAt m c) ∗ stg c cc0_stg1_0 (rtAt m c) ∗ stg c cc0_stg2_0 (wAt m c) ∗ stg c cc0_stg3_0 (outAt m c))

theorem fetched0 (c : Dev nD) (d) : (dats m ρ 0 c).before (0 : Fin 4) t₀ d = xAt m c := by
  unfold Dat.before; rw [if_pos (fetch0_0 t₀)]; rfl
theorem fetched1 (c : Dev nD) (d) : (dats m ρ 0 c).before (1 : Fin 4) t₀ d = rtAt m c := by
  unfold Dat.before; rw [if_pos (fetch0_1 t₀)]; rfl
theorem fetched2 (c : Dev nD) (d) : (dats m ρ 0 c).before (2 : Fin 4) t₀ d = wAt m c := by
  unfold Dat.before; rw [if_pos (fetch0_2 t₀)]; rfl

/-- The body, between what the pipeline gives it and what it takes back. -/
theorem point (c : Dev nD) :
    pointPre m ρ c ⊢ wpc (F := F) c (cc0_body (F := F) xM (Memref.isWhole_whole _) rtM (Memref.isWhole_whole _) wM (Memref.isWhole_whole _) oM (Memref.isWhole_whole _)
      rankM (Memref.isWhole_whole _) yM (Memref.isWhole_whole _) sM (Memref.isWhole_whole _) vM (Memref.isWhole_whole _) cc0_scratch4 cc0_scratch5) (fun _ => pointPost m ρ c) := by
  unfold pointPre Φ₀ before0 credits ghost
  rw [scopedRest0_eq]
  iintro ⟨⟨⟨⟨%K, #HR, Hat, Hpay⟩, ⟨HcB, HcR⟩, #Hl⟩, ⟨%f0, Hk0⟩, ⟨%f1, Hk1⟩, ⟨%f2, Hk2⟩, ⟨%f3, Hk3⟩⟩, Ho, ⟨%d0, %g0, %hg0, Hx⟩, ⟨%d1, %g1, %hg1, Hrt⟩, ⟨%d2, %g2, %hg2, Hw⟩, ⟨%d3, %g3, %hg3, Hout⟩⟩
  rw [fetched0] at hg0; rw [fetched1] at hg1; rw [fetched2] at hg2
  subst hg0 hg1 hg2
  unfold Dat.owesAt Pipeline.owesWithin
  icases Ho with ⟨%W, %hW, HO⟩
  rw [show (dats m ρ 0 c).owed t₀.castSucc = owed c 0 0 from rfl]
  iapply (body (sent m) K c (rtAt m c) (xAt m c) (wAt m c) rfl W g3 f0 f1 f2 f3) $$ [Hat Hpay HcB HcR Hk0 Hk1 Hk2 Hk3 HO Hx Hrt Hw Hout]
  · unfold bodyIn
    isplitr; · iexact HR
    isplitr; · iexact Hl
    isplitl [HO]; · iexact HO
    isplitl [Hx]; · iexact Hx
    isplitl [Hrt]; · iexact Hrt
    isplitl [Hw]; · iexact Hw
    isplitl [Hout]; · iexact Hout
    isplitl [Hk0]; · iexact Hk0
    isplitl [Hk1]; · iexact Hk1
    isplitl [Hk2]; · iexact Hk2
    isplitl [Hk3]; · iexact Hk3
    isplitl [HcB]; · iexact HcB
    isplitl [HcR]; · iexact HcR
    isplitl [Hat]; · iexact Hat
    iexact Hpay
  unfold bodyOut
  iintro ⟨⟨%W', HO⟩, Hx, Hrt, Hw, Hout, ⟨%e0, Hk0⟩, ⟨%e1, Hk1⟩, Hk2, Hk3, Hz⟩
  unfold pointPost Φ₁ Dat.owesAt Pipeline.owesWithin
  rw [show (dats m ρ 0 c).owed t₀.succ = 0 from rfl, scopedRest0_eq]
  isplitl [Hk0 Hk1 Hk2 Hk3 Hz]
  · isplitr [Hz]
    · isplitl [Hk0]; · iexists _; iexact Hk0
      isplitl [Hk1]; · iexists _; iexact Hk1
      isplitl [Hk2]; · iexists _; iexact Hk2
      iexists _; iexact Hk3
    · iexact Hz
  isplitl [HO]
  · iexists W'
    isplitr; · ipureintro; exact fun _ _ => Or.inl trivial
    iexact HO
  isplitl [Hx]
  · iexists _; isplitr; · (ipureintro; rfl)
    iexact Hx
  isplitl [Hrt]
  · iexists _; isplitr; · (ipureintro; rfl)
    iexact Hrt
  isplitl [Hw]
  · iexists _; isplitr; · (ipureintro; rfl)
    iexact Hw
  iexists _; isplitr; · (ipureintro; rfl)
  iexact Hout

set_option maxRecDepth 4000 in
/-- The pipeline's obligation. -/
theorem obligation (c : Dev nD) : BodyObligation (dats (F := F) m ρ 0 c) (defs₀ (F := F)) 𝒱₀ () Set.univ := fun t => by
  rw [fin_N0 t]
  rw [show (∀ Φ : Fin cfg0.W → sProp 𝕄, bigSep Finset.univ Φ = iprop(Φ (0 : Fin 4) ∗ Φ (1 : Fin 4) ∗ Φ (2 : Fin 4) ∗ Φ (3 : Fin 4))) from bigSep_W0,
    show (∀ Φ : Fin cfg0.W → sProp 𝕄, bigSep Finset.univ Φ = iprop(Φ (0 : Fin 4) ∗ Φ (1 : Fin 4) ∗ Φ (2 : Fin 4) ∗ Φ (3 : Fin 4))) from bigSep_W0]
  simp only [owns_eq]
  exact point m ρ c

end Cert.KernelIdeal.Run

end
-- ==== Proof.Launch.lean ====
/-
The launch: the exchange's cells dealt to the eight devices, and the run of the whole program.
-/
module

public import proofs.«01_k».proof.Proof.Data
public import Idealize.ShloMosaic.Lib.Pipeline.CollectiveSegs

@[expose] public section

noncomputable section

namespace Cert.KernelIdeal.Run

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- The kernel's own semaphores: all of the exchange's but the entry semaphore. -/
abbrev osem : Fin 15 → SemLoc sig := fun k => csem k.succ

theorem ownSemFacts : Pipeline.OwnSemFacts cfg0.spec osem := by decide

theorem share_eq (c : Dev nD) (w : Fin cfg0.W) : (dats m ρ 0 c).share w = fullShare := by unfold Dat.share; split <;> rfl

theorem csem_inj : Function.Injective csem := by decide

theorem kcell_inj : Function.Injective (kcell : Dev nD × Fin 16 → GSem nD τ sig) := by
  rintro ⟨c, k⟩ ⟨c', k'⟩ h
  have h1 : c = c' := congrArg (fun g : GSem nD τ sig => g.1.1) h
  have h2 : k = k' := csem_inj (congrArg Prod.snd h)
  rw [h1, h2]

def allCells : Finset (GSem nD τ sig) := Finset.univ.map ⟨kcell, kcell_inj⟩

/-- The duty tokens, by the device whose cell it is, the kind of cell and the number. -/
def tokOf (x : Dev nD × Fin 3 × Fin 7) : GSem nD τ sig × ℕ × Fin 7 :=
  match x.2.1 with
  | 0 => (barCell x.1, 0, x.2.2)
  | 1 => (sendCell x.1 x.2.2, 0, 0)
  | 2 => (recvCell x.1 x.2.2, 0, 0)

theorem tok_kinds : Function.Injective (fun x : Fin 3 × Fin 7 => ((tokOf (0, x)).1.2, (tokOf (0, x)).2.2)) := by decide

theorem tok_at (c : Dev nD) (x : Fin 3 × Fin 7) :
    (tokOf (c, x)).1.1.1 = c ∧ ((tokOf (c, x)).1.2, (tokOf (c, x)).2.2) = ((tokOf (0, x)).1.2, (tokOf (0, x)).2.2) := by
  obtain ⟨k, j⟩ := x
  match k with
  | 0 => exact ⟨rfl, rfl⟩
  | 1 => exact ⟨rfl, rfl⟩
  | 2 => exact ⟨rfl, rfl⟩

theorem tokOf_inj : Function.Injective tokOf := by
  rintro ⟨c, x⟩ ⟨c', x'⟩ h
  have h1 : c = c' := by rw [← (tok_at c x).1, ← (tok_at c' x').1, h]
  have h2 : x = x' := tok_kinds (by
    show ((tokOf (0, x)).1.2, (tokOf (0, x)).2.2) = ((tokOf (0, x')).1.2, (tokOf (0, x')).2.2)
    rw [← (tok_at c x).2, ← (tok_at c' x').2, h])
  rw [h1, h2]

def allToks : Finset (GSem nD τ sig × ℕ × Fin 7) := Finset.univ.map ⟨tokOf, tokOf_inj⟩

def u₀ : UU := (initOf (Pipeline.cells cfgs cellOf_inj) (Pipeline.launchToks cfgs cellOf_inj), initOf allCells allToks)

/-- The duty tokens of device `c`'s own cells. -/
def toks (c : Dev nD) : sProp 𝕄 :=
  iprop((bigSep Finset.univ fun j : Fin 7 => dutyTok ER (barCell c) 0 j)
    ∗ (bigSep Finset.univ fun i : Fin 7 => dutyTok ER (sendCell c i) 0 0)
    ∗ bigSep Finset.univ fun i : Fin 7 => dutyTok ER (recvCell c i) 0 0)

def G (c : Dev nD) : sProp 𝕄 :=
  iprop((bigSep Finset.univ fun k : Fin 16 => roundState ER (rd (sent m)) (kcell (c, k)) 0)
    ∗ (bigSep Finset.univ fun k : Fin 16 => iprop(atPos ER (kcell (c, k)) 0 ∅ 0 ∗ reached ER (kcell (c, k)) 0)) ∗ toks c)

def G' (c : Dev nD) : sProp 𝕄 := iprop(∃ K, ghost m K c)

omit [FloatOps F] in
theorem bigSep_fin3 (Φ : Fin 3 → sProp 𝕄) : bigSep Finset.univ Φ = iprop(Φ 0 ∗ Φ 1 ∗ Φ 2) :=
  bigSep_univ_eq_bigSepL [0, 1, 2] (by decide) (by decide) Φ

omit [FloatOps F] in
theorem over_cells (Φ : GSem nD τ sig → sProp 𝕄) :
    bigSep allCells Φ = bigSep Finset.univ fun c : Dev nD => bigSep Finset.univ fun k : Fin 16 => Φ (kcell (c, k)) := by
  unfold allCells; rw [bigSep_map, bigSep_univ_prod]; rfl
omit [FloatOps F] in
theorem over_toks : bigSep allToks (fun x => (dutyTok ER x.1 x.2.1 x.2.2 : sProp 𝕄)) = bigSep Finset.univ fun c : Dev nD => toks c := by
  unfold allToks; rw [bigSep_map, bigSep_univ_prod]
  exact bigSep_congr fun c _ => by unfold toks; rw [bigSep_univ_prod, bigSep_fin3]; rfl

theorem fund_all : BI.own (ER (initOf allCells allToks)) ⊢ (|==> bigSep Finset.univ (G m) : sProp 𝕄) := by
  iintro HX
  imod (Rounds.fund ER (rd (sent m)) allCells allToks) $$ HX with ⟨Hst, Hr, Hat, Htok⟩
  imodintro
  ihave Hst' := (Entails.of_eq (over_cells (F := F) fun g => roundState ER (rd (sent m)) g 0)) $$ Hst
  ihave Hat' := (Entails.of_eq (over_cells (F := F) fun g => atPos ER g 0 ∅ 0)) $$ Hat
  ihave Hr' := (Entails.of_eq (over_cells (F := F) fun g => reached ER g 0)) $$ Hr
  ihave Htok' := (Entails.of_eq (over_toks (F := F))) $$ Htok
  unfold G; simp only [bigSep_sep']
  isplitl [Hst']; · iexact Hst'
  isplitl [Hat' Hr']
  · isplitl [Hat'] <;> iassumption
  iexact Htok'

/-! ## The semaphores -/

omit [FloatOps F] in
theorem bigSep_fin15 (Φ : Fin 16 → sProp 𝕄) :
    bigSep Finset.univ Φ = iprop(Φ 0 ∗ bigSep Finset.univ fun k : Fin 15 => Φ k.succ) := by
  have h : Finset.univ.erase (0 : Fin 16) = Finset.univ.map ⟨Fin.succ, Fin.succ_injective 15⟩ := by decide
  rw [bigSep_univ_at _ (0 : Fin 16), h, BI.bigSep_map]; rfl

omit [FloatOps F] in
theorem own_sems (c : Dev nD) : (Pipeline.ownSems0 (Ix := Unit) (Name := ℕ) (U := UU) (Lvl := ℕ) (Val := Elt F) (τ := τ) osem c : sProp 𝕄)
    = bigSep Finset.univ fun k : Fin 15 => semVal (kcell (c, k.succ)) 0 := rfl
omit [FloatOps F] in
theorem entry_sem (c : Dev nD) : (unscopedSems0 c : sProp 𝕄) = semVal (kcell (c, 0)) 0 := by
  unfold unscopedSems0; rw [bigSep_eq_bigSepL_of_eq [SemLoc.reg barS] (by decide) (by decide)]; rfl

omit [FloatOps F] in
theorem all_sems (c : Dev nD) :
    (bigSep Finset.univ fun k : Fin 16 => (semVal (kcell (c, k)) 0 : sProp 𝕄))
      = iprop(unscopedSems0 c ∗ Pipeline.ownSems0 (Ix := Unit) (Name := ℕ) (U := UU) (Lvl := ℕ) (Val := Elt F) (τ := τ) osem c) := by
  rw [own_sems, entry_sem, bigSep_fin15]

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k => iprop(∃ κ : ℕ, cellInv ER (rd (sent m)) κ (kcell (c, k))))
          ∗ (bigSep Finset.univ fun k => iprop(atPos ER (kcell (c, k)) 0 ∅ 0 ∗ reached ER (kcell (c, k)) 0)) ∗ toks c) := by
  unfold G
  iintro ⟨Hos, Hus, Hst, Hat, Htok⟩
  ihave Hv := (Entails.of_eq (all_sems (F := F) c).symm) $$ [Hos Hus]
  · isplitl [Hus] <;> iassumption
  imod (show iprop((bigSep Finset.univ fun k : Fin 16 => semVal (kcell (c, k)) 0) ∗ bigSep Finset.univ fun k : Fin 16 => roundState ER (rd (sent m)) (kcell (c, k)) 0)
      ⊢ (|={Set.univ}=> bigSep Finset.univ fun k => iprop(∃ κ : ℕ, cellInv ER (rd (sent m)) κ (kcell (c, k))) : sProp 𝕄) from by
        rw [← bigSep_sep']
        exact (bigSep_mono fun k _ => (Rounds.body_intro ER (rd (sent m)) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

/-! ## The tokens dealt around -/

omit [FloatOps F] in
theorem bigSep_swap (Φ : Dev nD → Fin 7 → sProp 𝕄) :
    (bigSep Finset.univ fun c : Dev nD => bigSep Finset.univ fun j : Fin 7 => Φ c j) = bigSep Finset.univ fun j : Fin 7 => bigSep Finset.univ fun c : Dev nD => Φ c j := by
  rw [← bigSep_univ_prod (fun x : Dev nD × Fin 7 => Φ x.1 x.2), ← bigSep_univ_prod (fun x : Fin 7 × Dev nD => Φ x.2 x.1)]
  exact bigSep_univ_equiv (Equiv.prodComm (Fin 7) (Dev nD)) (fun x : Dev nD × Fin 7 => Φ x.1 x.2)

omit [FloatOps F] in
/-- A family over the devices and the numbers, read at the device the number of places on. -/
theorem bigSep_around (Φ : Dev nD → Fin 7 → sProp 𝕄) :
    (bigSep Finset.univ fun c : Dev nD => bigSep Finset.univ fun j : Fin 7 => Φ c j) = bigSep Finset.univ fun c : Dev nD => bigSep Finset.univ fun j : Fin 7 => Φ (up j c) j := by
  rw [bigSep_swap, bigSep_swap]
  exact bigSep_congr fun j _ => bigSep_univ_equiv (upEquiv j) (fun c : Dev nD => Φ c j)

omit [FloatOps F] in
theorem bigSep_around_rev (Φ : Dev nD → Fin 7 → sProp 𝕄) :
    (bigSep Finset.univ fun c : Dev nD => bigSep Finset.univ fun j : Fin 7 => Φ c j) = bigSep Finset.univ fun c : Dev nD => bigSep Finset.univ fun j : Fin 7 => Φ (up j c) j.rev := by
  rw [← bigSep_around (fun c j => Φ c j.rev)]
  exact bigSep_congr fun c _ => bigSep_univ_equiv Fin.revPerm (fun j : Fin 7 => Φ c j)

omit [FloatOps F] in
theorem toks_around : (bigSep Finset.univ fun c : Dev nD => (toks c : sProp 𝕄)) ⊢ bigSep Finset.univ fun c : Dev nD => payToks c := by
  unfold toks payToks
  rw [bigSep_sep', bigSep_sep', bigSep_sep', bigSep_sep', bigSep_around_rev (fun c j => (dutyTok ER (barCell c) 0 j : sProp 𝕄)),
    bigSep_around (fun c i => (dutyTok ER (recvCell c i) 0 0 : sProp 𝕄))]

def linear (c : Dev nD) : sProp 𝕄 := iprop((bigSep Finset.univ fun k : Fin 16 => atPos ER (kcell (c, k)) 0 ∅ 0) ∗ payToks c)

theorem ghost_intro (K : Dev nD × Fin 16 → ℕ) (c : Dev nD) : iprop(records (sent m) K ∗ linear c) ⊢ G' m c := by
  unfold G' ghost linear
  iintro ⟨#HR, Hat, Ht⟩
  iexists K
  isplitr; · iexact HR
  isplitl [Hat] <;> iassumption

omit [FloatOps F] in
theorem bigSep_with {I : Type} [DecidableEq I] {T : Finset I} {R : sProp 𝕄} [BI.Persistent R] {Φ Ψ : I → sProp 𝕄}
    (h : ∀ i ∈ T, iprop(R ∗ Φ i) ⊢ Ψ i) : iprop(R ∗ bigSep T Φ) ⊢ bigSep T Ψ :=
  (sep_mono_left (BI.bigSep_of_persistent T R)).trans (by rw [← bigSep_sep']; exact bigSep_mono h)

theorem regroup :
    (bigSep Finset.univ fun c : Dev nD => iprop((bigSep Finset.univ fun k => iprop(∃ κ : ℕ, cellInv ER (rd (sent m)) κ (kcell (c, k))))
          ∗ (bigSep Finset.univ fun k => iprop(atPos ER (kcell (c, k)) 0 ∅ 0 ∗ reached ER (kcell (c, k)) 0)) ∗ toks c) : sProp 𝕄)
      ⊢ bigSep Finset.univ (G' m) := by
  rw [bigSep_sep', bigSep_sep', ← bigSep_univ_prod (fun ck : Dev nD × Fin 16 => iprop(∃ κ : ℕ, cellInv ER (rd (sent m)) κ (kcell ck))),
    bigSep_congr (s := Finset.univ) (fun (c : Dev nD) _ => bigSep_sep' Finset.univ (fun k : Fin 16 => (atPos ER (kcell (c, k)) 0 ∅ 0 : sProp 𝕄)) (fun k => reached ER (kcell (c, k)) 0)),
    bigSep_sep', ← bigSep_univ_prod (fun ck : Dev nD × Fin 16 => (reached ER (kcell ck) 0 : sProp 𝕄))]
  iintro ⟨HI, ⟨Hat, #HR⟩, Htok⟩
  ihave HK := (BI.bigSep_exists_pi Finset.univ (fun (ck : Dev nD × Fin 16) (κ : ℕ) => (cellInv ER (rd (sent m)) κ (kcell ck) : sProp 𝕄))) $$ HI
  icases HK with ⟨%K, #HI⟩
  ihave Htk := (toks_around (F := F)) $$ Htok
  iapply (bigSep_with (R := records (sent m) K) fun c _ => ghost_intro m K c)
  isplitr
  · unfold records; isplitl; · iexact HI
    iexact HR
  · iapply (Entails.of_eq (bigSep_sep' Finset.univ (fun c : Dev nD => bigSep Finset.univ fun k : Fin 16 => (atPos ER (kcell (c, k)) 0 ∅ 0 : sProp 𝕄)) payToks).symm)
    isplitl [Hat]; · iexact Hat
    iexact Htk

theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## The credit at launch -/

theorem bar_inj {a b : Dev nD} (h : barCell a = barCell b) : a = b := congrArg (fun g : GSem nD τ sig => g.1.1) h
theorem recv_inj {a b : Dev nD} {i j : Fin 7} (h : recvCell a i = recvCell b j) : a = b ∧ i = j :=
  ⟨congrArg (fun g : GSem nD τ sig => g.1.1) h, by
    have h2 : csem (vIx i) = csem (vIx j) := by rw [csem_recv, csem_recv]; exact congrArg Prod.snd h
    have h3 := congrArg Fin.val (csem_inj h2)
    exact Fin.ext (by show i.val = j.val; have : i.val + 9 = j.val + 9 := h3; omega)⟩

theorem all_above (f : Fin 7 → ℕ) : ∑ i ∈ Finset.univ.filter (fun i : Fin 7 => 0 ≤ i.val), f i = ∑ i, f i := by
  rw [Finset.filter_true_of_mem (fun _ _ => Nat.zero_le _)]

theorem signals_total : ∀ c : Dev nD, ∑ d : Dev nD, ∑ j : Fin 7, (if c = up j d then 1 else 0) = 7 := by decide
theorem copies_total : ∀ (c : Dev nD) (i : Fin 7), ∑ d : Dev nD, ∑ j : Fin 7, (if c = up j d ∧ i = j then 1 else 0) = 1 := by decide

theorem owed_bar (d c : Dev nD) : owed d 0 0 (barCell c) () = ∑ j : Fin 7, if c = up j d then 1 else 0 := by
  rw [owed_apply, all_above, all_above, Finset.sum_eq_zero, zero_add]
  · refine Finset.sum_congr rfl fun j _ => ?_
    unfold owedB
    rw [tallyAt_apply]
    by_cases h : c = up j d
    · rw [if_pos h, if_pos ⟨by rw [h], rfl⟩]
    · rw [if_neg h, if_neg fun h' => h (bar_inj h'.1)]
  · intro i _
    unfold owedR
    rw [tallyAt_apply, if_neg fun h' => by cases congrArg Prod.snd h'.1]

theorem owed_recv (d c : Dev nD) (i : Fin 7) : owed d 0 0 (recvCell c i) () = (∑ j : Fin 7, if c = up j d ∧ i = j then 1 else 0) * N := by
  rw [owed_apply, all_above, all_above, Finset.sum_eq_zero (f := fun j => owedB d j (recvCell c i) ()), add_zero, Finset.sum_mul]
  · refine Finset.sum_congr rfl fun j _ => ?_
    unfold owedR
    rw [tallyAt_apply]
    by_cases h : c = up j d ∧ i = j
    · rw [if_pos h, one_mul, if_pos ⟨by rw [h.1, h.2], rfl⟩]
    · rw [if_neg h, zero_mul, if_neg fun h' => h (recv_inj h'.1)]
  · intro j _
    unfold owedB
    rw [tallyAt_apply, if_neg fun h' => by cases congrArg Prod.snd h'.1]

/-- What every device owes at launch. -/
abbrev O₀ (c : Dev nD) : CellTallies nD τ sig Unit := owed c 0 0

theorem launch_bar (c : Dev nD) :
    tallyOn (barCell c) (launchCredit (Pipeline.owing O₀) 0 (barCell c)) = (tallyAt (barCell c) () 7 : CellTallies nD τ sig Unit) := by
  unfold tallyAt; refine congrArg _ (Finsupp.ext fun u => ?_); cases u
  rw [Pipeline.launchCredit_owing, Finsupp.single_eq_same, Finset.sum_congr rfl fun d _ => owed_bar d c, signals_total]

theorem launch_recv (c : Dev nD) (i : Fin 7) :
    tallyOn (recvCell c i) (launchCredit (Pipeline.owing O₀) 0 (recvCell c i)) = (tallyAt (recvCell c i) () N : CellTallies nD τ sig Unit) := by
  unfold tallyAt; refine congrArg _ (Finsupp.ext fun u => ?_); cases u
  rw [Pipeline.launchCredit_owing, Finsupp.single_eq_same, Finset.sum_congr rfl fun d _ => owed_recv d c i, ← Finset.sum_mul, copies_total, one_mul]

def recvEmb : Fin 7 ↪ SemLoc sig := ⟨fun i => .dma (recvS i), fun i j h => by
  have h1 : recvS i = recvS j := by injection h
  exact Fin.ext (by have := congrArg Fin.val h1; show i.val = j.val; have h2 : i.val + 12 = j.val + 12 := this; omega)⟩

omit [FloatOps F] in
theorem creds (c : Dev nD) : (Pipeline.launchCred O₀ c : sProp 𝕄) ⊢ credits c := by
  unfold Pipeline.launchCred credits
  rw [bigSep_univ_at _ (SemLoc.reg barS), launch_bar]
  refine sep_mono_right ?_
  refine (bigSep_subset (t := Finset.univ.map recvEmb) ?_).trans ?_
  · intro s hs
    obtain ⟨i, -, rfl⟩ := Finset.mem_map.mp hs
    exact Finset.mem_erase.mpr ⟨fun h => (by cases h), Finset.mem_univ _⟩
  · rw [BI.bigSep_map]
    exact bigSep_mono fun i _ => Entails.of_eq (congrArg (fun t => (cred t : sProp 𝕄)) (launch_recv c i))

/-! ## The run -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(before0 m c ∗ Pipeline.unscopedRestP Pipeline.Prefetch.none cfg0.spec c (fun b => m ((c : Thread nD τ).loc b))) := by
  iintro ⟨Hr, Hlev, Hcr, -, HG⟩
  ihave Hc := (creds (F := F) c) $$ Hcr
  imodintro
  unfold before0 G'
  isplitr [Hr]
  · isplitl [HG]; · iexact HG
    isplitl [Hc] <;> iassumption
  · iexact Hr

theorem entry (c : Dev nD) :
    iprop(before0 m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl]
  unfold Φ₀
  iintro ⟨Hs, -, Hr⟩
  isplitl [Hs] <;> iassumption

theorem leave (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ c from rfl]
  unfold Φ₁
  rw [all_sems]
  iintro ⟨Hr, Hu, Ho⟩
  isplitl [Hu]; · iexact Hu
  isplitl [Ho] <;> iassumption

theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide) _ (by
      rcases t with ⟨_ | _, ht⟩
      · exact Or.inl rfl
      · exact Or.inr rfl)

def finalA (c : Dev nD) (w : Fin cfg0.W) : Buf (Elt F) ((cfg0.win w).arr.view.loc (c : Thread nD τ)) := (dats m ρ 0 c).arrAt w cfg0.N

/-- The buffers no window is on. -/
abbrev others : Finset (Ref sig .tc) := Pipeline.restRefsP sig Pipeline.Prefetch.none cfg0.spec

def post : PUnit × MemSt nD τ sig (Elt F) → Prop := fun r =>
  ∀ c : Dev nD, (∀ w : Fin cfg0.W, r.2.mem ((cfg0.win w).arr.view.loc (c : Thread nD τ)) = finalA m ρ c w)
    ∧ ∀ b ∈ others, r.2.mem ((c : Thread nD τ).loc b) = m ((c : Thread nD τ).loc b)

set_option maxRecDepth 8000 in
/-- Every run of the program ends, with each window's array at what the pipeline leaves there, every other buffer as
    it was and every counter at zero. -/
theorem run_main : θ_run defs (onTc (τ := τ) (main (F := F))) (start₀ m ρ) (fun r => post m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := obligation m ρ) (hne := block_pos0) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m) (G' := G' m) (u₀ := u₀)
    (hu₀ := by
      unfold u₀
      iintro Hu
      ihave H := (ownU_pair _ _) $$ Hu
      icases H with ⟨HP, HX⟩
      imod (fund_all m) $$ HX with HG
      imodintro
      isplitl [HP] <;> iassumption)
    (hglob := glob m)
    (hA := fun _ _ => rfl) (hpf := fun _ k => k.elim0)
    (X := before0 m) (Y := fun c => unscopedSems0 c)
    (Z := fun c => Pipeline.unscopedRestP Pipeline.Prefetch.none cfg0.spec c (fun b => m ((c : Thread nD τ).loc b)))
    (hX := start_intro m ρ) (hin := entry m ρ) (hout := leave m ρ)
    (QY := fun c s => (∀ b ∈ others, s.mem ((c : Thread nD τ).loc b) = m ((c : Thread nD τ).loc b))
      ∧ ∀ sm : SemLoc sig, sm.isScoped .tc = false → s.sem ((c.tc : Thread nD τ), sm) = 0)
    (hY := fun c s' => by
      iintro ⟨Hu, Hz, HSI⟩
      unfold Pipeline.unscopedRestP
      ihave H := (pointsTo_read_all others (fun b => (c : Thread nD τ).loc b) (fun b => m ((c : Thread nD τ).loc b)) s') $$ [Hz HSI]
      · isplitl [Hz] <;> iassumption
      icases H with ⟨%hb, HSI⟩
      imod (Pipeline.unscopedSems0_read (X := unscopedSems0 c) (c := c) fupd_intro s') $$ [Hu HSI] with ⟨%hs, HSI⟩
      · isplitl [Hu] <;> iassumption
      imodintro
      isplitr; · ipureintro; exact ⟨hb, hs⟩
      iexact HSI)
    (hQ := fun _ h hs => ⟨fun c => ⟨(h c).1, (h c).2.2.1⟩, sem_eq_zero hs fun c => (h c).2.2.2⟩)

theorem main_arg1_other : main_arg1 ∈ others := by decide

theorem finalA_x (c : Dev nD) : finalA m ρ c (0 : Fin 4) = m ((c : Thread nD τ).loc main_arg0) := (dats (F := F) m ρ 0 c).arrAt_in (0 : Fin 4) rfl _
theorem finalA_rt (c : Dev nD) : finalA m ρ c (1 : Fin 4) = m ((c : Thread nD τ).loc main_arg2) := (dats (F := F) m ρ 0 c).arrAt_in (1 : Fin 4) rfl _
theorem finalA_w (c : Dev nD) : finalA m ρ c (2 : Fin 4) = m ((c : Thread nD τ).loc main_arg3) := (dats (F := F) m ρ 0 c).arrAt_in (2 : Fin 4) rfl _

/-- The run, with the arguments read off. -/
theorem run_kept : θ_run defs (onTc (τ := τ) (main (F := F))) ⟨m, fun _ => 0, ρ⟩ (fun r =>
    (∀ c : Dev nD, r.2.mem ((c.tc : Thread nD τ).loc main_v1) = finalA m ρ c (3 : Fin 4)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun r h => ⟨fun c => ⟨(h.1 c).1 (3 : Fin 4), ((h.1 c).1 (0 : Fin 4)).trans (finalA_x m ρ c), (h.1 c).2 main_arg1 main_arg1_other,
    ((h.1 c).1 (1 : Fin 4)).trans (finalA_rt m ρ c), ((h.1 c).1 (2 : Fin 4)).trans (finalA_w m ρ c)⟩, h.2⟩) (run_main m ρ)

/-- The run, of the arguments and the counters only. -/
theorem run_frame : θ_run defs (onTc (τ := τ) (main (F := F))) ⟨m, fun _ => 0, ρ⟩ (fun r =>
    (∀ c : Dev nD, r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun _ h => ⟨fun c => (h.1 c).2, h.2⟩) (run_kept m ρ)

end Cert.KernelIdeal.Run

end
-- ==== Proof.Frames.lean ====
/-
The frames: each program ends from any memory, with its arguments as they were and its counters at zero.
-/
module

public import proofs.«01_k».proof.Defs
public import proofs.«01_k».proof.Proof.Launch
public import proofs.«01_k».proof.Proof.Gen.Kernel
public import proofs.«01_k».proof.Proof.Gen.ReferenceIdeal.Run
public import Idealize.ShloMosaic.Lib.Quiescent

@[expose] public section

noncomputable section

namespace Cert.Proof

open Idealize.ShloMosaic Idealize.SL.Sem

set_option maxRecDepth 10000 in
/-- The two programs have the same text, so the same body table. -/
theorem bodies_eq : Cert.Kernel.defs₀ (F := Bits) = Cert.KernelIdeal.defs₀ (F := Bits) := by
  unfold Cert.Kernel.defs₀ Cert.KernelIdeal.defs₀
  refine congrArg (Defs.onTc (nD := Cert.KernelIdeal.nD) (τ := Cert.KernelIdeal.τ) (sig := Cert.KernelIdeal.sig) (Λ := Cert.KernelIdeal.Λ₀)) ?_
  funext k x
  rcases k with ⟨_ | k, hk⟩
  · rcases x with ⟨t, s⟩
    rfl
  · rfl

theorem tables_eq : Cert.Kernel.defs (F := Bits) = Cert.KernelIdeal.defs (F := Bits) :=
  congrArg (Pipeline.defs (Cert.KernelIdeal.pcfgs (F := Bits))) bodies_eq

theorem frame_kernel : Cert.quiescent_Kernel := fun m ρ _ => by
  rw [tables_eq]
  exact Cert.KernelIdeal.Run.run_frame (F := Bits) m ρ

theorem frame_ideal : Cert.quiescent_KernelIdeal := fun m ρ _ => Cert.KernelIdeal.Run.run_frame (F := Ideal) m ρ

theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

theorem preserves : Cert.preserves_Kernel_KernelIdeal := trivial

end Cert.Proof

end
-- ==== Proof.Reads.lean ====
/-
Reads of the elementary operations at one index over the extended reals, and the two sums every selection matrix
comes down to: a sum with one selected term and a sum counting the terms that meet a condition.
-/
module

public import Idealize.ShloMosaic.Lib.MatmulPlain
public import Idealize.ShloMosaic.Lib.ValueIdx
public import Idealize.ShloMosaic.Lib.ValueLayout
public import Idealize.ShloMosaic.Lib.IdealHost
public import Idealize.ShloMosaic.Lib.Routing.Words
public import Idealize.ShloMosaic.Lib.Pipeline.Value

@[expose] public section

noncomputable section

namespace Cert.KernelIdeal.Run

open Idealize.ShloMosaic
open Idealize.ShloMosaic.ValueIdx Idealize.ShloMosaic.Routing
open Finset

/-- A real number as an extended real. -/
abbrev re (x : ℝ) : EReal := (x : EReal)

/-- The indicator of a condition, as a real number. -/
abbrev ind (p : Prop) [Decidable p] : ℝ := if p then 1 else 0

/-! ## Elementwise operations at an index -/

section
variable {s : Shape} {w : Nat} {φ : FTy}

theorem at_extui (v : ℕ) (x : IVec s w) (h : w < v) (i : s.Idx) : extui v x h i = (x i).setWidth v := rfl
theorem at_sitofp (x : IVec s w) (i : s.Idx) : (sitofp φ x : FVec Ideal s φ) i = re ((x i).toInt : ℝ) := rfl
theorem at_truncf (x : FVec Ideal s φ) (ψ : FTy) (h : ψ.bits < φ.bits) (i : s.Idx) : (truncf ψ x h : FVec Ideal s ψ) i = x i := rfl
theorem at_cmpi (p : CmpIPredicate) (x y : IVec s w) (i : s.Idx) : cmpi p x y i = IntOp.cmpi p (x i) (y i) := rfl
theorem at_cmpf (p : CmpFPredicate) (x y : FVec Ideal s φ) (i : s.Idx) : cmpf p x y i = Ideal.cmp p (x i) (y i) := rfl
theorem at_addi (x y : IVec s w) (i : s.Idx) : addi x y i = x i + y i := rfl
theorem at_subi (x y : IVec s w) (i : s.Idx) : subi x y i = x i - y i := rfl
theorem at_muli (x y : IVec s w) (i : s.Idx) : muli x y i = x i * y i := rfl
theorem at_andi (x y : IVec s w) (i : s.Idx) : andi x y i = x i &&& y i := rfl
theorem at_mulf (x y : FVec Ideal s φ) (i : s.Idx) : (mulf x y : FVec Ideal s φ) i = (x i * y i : EReal) := rfl
theorem at_addf (x y : FVec Ideal s φ) (i : s.Idx) : (addf x y : FVec Ideal s φ) i = (x i + y i : EReal) := rfl
theorem at_subf (x y : FVec Ideal s φ) (i : s.Idx) : (subf x y : FVec Ideal s φ) i = (x i - y i : EReal) := rfl
theorem at_minf (x y : FVec Ideal s φ) (i : s.Idx) : (minimumf x y : FVec Ideal s φ) i = min (x i : EReal) (y i) := rfl
theorem at_select {α : Type} (c : IVec s 1) (a b : s.Idx → α) (i : s.Idx) : select c a b i = if c i = 1 then a i else b i := rfl
theorem at_bc {α : Type} (x : α) (i : s.Idx) : broadcast s x i = x := rfl

end

theorem at_io0 {a b : ℕ} (κ : Kind) (h : (⟨2, ![a, b]⟩ : Shape).Iotas κ 32 [0]) (i : Fin a) (j : Fin b) :
    iota κ ⟨2, ![a, b]⟩ 32 [0] h (ix2 i j) = BitVec.ofNat 32 i.val := iota_single_apply κ _ 32 0 h _

theorem at_io1 {a b : ℕ} (κ : Kind) (h : (⟨2, ![a, b]⟩ : Shape).Iotas κ 32 [1]) (i : Fin a) (j : Fin b) :
    iota κ ⟨2, ![a, b]⟩ 32 [1] h (ix2 i j) = BitVec.ofNat 32 j.val := iota_single_apply κ _ 32 1 h _

theorem at_row {α : Type} {a b : ℕ} (v : (⟨2, ![1, b]⟩ : Shape).Idx → α) (h : (⟨2, ![1, b]⟩ : Shape).Broadcasts ⟨2, ![a, b]⟩)
    (p : Fin a) (c : Fin b) : broadcastTo ⟨2, ![a, b]⟩ v h (ix2 p c) = v (ix2 (0 : Fin 1) c) := broadcastTo_1b_ab_apply v h p c

theorem at_col {α : Type} {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

theorem at_mm {M K N : ℕ} {φ ψ : FTy} (prec : Option ContractPrecision) (a : FVec Ideal ⟨2, ![M, K]⟩ φ) (b : FVec Ideal ⟨2, ![K, N]⟩ ψ)
    (z : FVec Ideal ⟨2, ![M, N]⟩ .f32) (hz : ∀ i, z i = (0 : EReal)) (t : Fin M) (c : Fin N) :
    (FloatOps.matmul (DotDims.plain M K N) prec a b z (ix2 t c) : EReal) = ∑ k : Fin K, (a (ix2 t k) * b (ix2 k c) : EReal) := by
  refine (Ideal.matmul_plain_apply (M := M) (K := K) (N := N) prec a b z t c).trans ?_
  rw [hz, zero_add]

theorem zero_at {s : Shape} (i : s.Idx) : (constant s .f32 0x00000000#32 : FVec Ideal s .f32) i = (0 : EReal) := Ideal.ofBits_zero_f32

theorem const25 : Ideal.ofBits .f32 0x41C80000#32 = re 25 := by
  simp [Ideal.ofBits, Ideal.ieee, -EReal.coe_mul]; norm_num

/-! ## Bits and words -/

theorem real_ofBool (p : Prop) [Decidable p] : re (((BitVec.ofBool (decide p)).setWidth 32).toInt : ℝ) = re (ind p) := by
  by_cases h : p <;> simp [h]

theorem real_word {n : ℕ} (h : n < 2 ^ 31) : re ((BitVec.ofNat 32 n).toInt : ℝ) = re (n : ℝ) := by
  rw [WordCmp.toInt_ofNat_of_lt (w := 32) h]; simp

theorem eq_word {a b : ℕ} (ha : a < 2 ^ 32) (hb : b < 2 ^ 32) :
    IntOp.cmpi .eq (BitVec.ofNat 32 a) (BitVec.ofNat 32 b) = BitVec.ofBool (decide (a = b)) := by
  show BitVec.ofBool (BitVec.ofNat 32 a == BitVec.ofNat 32 b) = _
  rw [beq_eq_decide]
  congr 1
  rw [decide_eq_decide]
  constructor
  · intro h
    have := congrArg BitVec.toNat h
    simp only [BitVec.toNat_ofNat] at this
    omega
  · rintro rfl; rfl

theorem eq_bits (x y : BitVec 32) : IntOp.cmpi .eq x y = BitVec.ofBool (decide (x = y)) := by
  show BitVec.ofBool (x == y) = _
  rw [beq_eq_decide]

theorem slt_word {a b : ℕ} (ha : a < 2 ^ 31) (hb : b < 2 ^ 31) :
    IntOp.cmpi .slt (BitVec.ofNat 32 a) (BitVec.ofNat 32 b) = BitVec.ofBool (decide (a < b)) := by
  show BitVec.ofBool ((BitVec.ofNat 32 a).slt (BitVec.ofNat 32 b)) = _
  rw [slt_ofNat32 ha hb]

theorem and_bits (p q : Prop) [Decidable p] [Decidable q] :
    BitVec.ofBool (decide p) &&& BitVec.ofBool (decide q) = BitVec.ofBool (decide (p ∧ q)) := by
  by_cases hp : p <;> by_cases hq : q <;> simp [hp, hq]

theorem cmp_olt (x y : ℝ) : Ideal.cmp .olt (re x) (re y) = BitVec.ofBool (decide (x < y)) := by
  show BitVec.ofBool (decide (re x < re y)) = _
  congr 1; rw [decide_eq_decide]; exact EReal.coe_lt_coe_iff
theorem cmp_ogt (x y : ℝ) : Ideal.cmp .ogt (re x) (re y) = BitVec.ofBool (decide (y < x)) := by
  show BitVec.ofBool (decide (re y < re x)) = _
  congr 1; rw [decide_eq_decide]; exact EReal.coe_lt_coe_iff
theorem cmp_oeq (x y : ℝ) : Ideal.cmp .oeq (re x) (re y) = BitVec.ofBool (decide (x = y)) := by
  show BitVec.ofBool (decide (re x = re y)) = _
  congr 1; rw [decide_eq_decide]; exact EReal.coe_eq_coe_iff

/-- The quotient rounded down, as the kernel spells it out of a division that rounds to zero: `q` the quotient, `g` the
sign of the numerator, `k` the sign of the divisor. -/
theorem floordiv_word {n b : ℕ} (hn : n < 2 ^ 31) (h0 : 0 < b) (hb : b < 2 ^ 31) (g : BitVec 32)
    (hg : g = (IntOp.cmpi .sgt (BitVec.ofNat 32 n) 0#32).setWidth 32 - (IntOp.cmpi .slt (BitVec.ofNat 32 n) 0#32).setWidth 32) :
    (if IntOp.cmpi .ne g 1#32 &&& IntOp.cmpi .ne (IntOp.remsi .vector (BitVec.ofNat 32 n) (BitVec.ofNat 32 b)) 0#32 = 1
      then IntOp.divsi .vector (BitVec.ofNat 32 n) (BitVec.ofNat 32 b) - 1#32 else IntOp.divsi .vector (BitVec.ofNat 32 n) (BitVec.ofNat 32 b))
      = BitVec.ofNat 32 (n / b) := by
  rw [remsi_word _ hn h0 hb, divsi_word _ hn h0 hb]
  have hlt : IntOp.cmpi .slt (BitVec.ofNat 32 n) 0#32 = 0#1 := by
    rw [slt_word (b := 0) hn (by decide)]; simp
  rcases Nat.eq_zero_or_pos n with rfl | hpos
  · rw [if_neg]
    rw [Nat.zero_mod]
    rw [show IntOp.cmpi .ne (BitVec.ofNat 32 0) 0#32 = 0#1 from rfl, BitVec.and_zero]
    decide
  · have hgt : IntOp.cmpi .sgt (BitVec.ofNat 32 n) 0#32 = 1#1 := by
      show BitVec.ofBool ((BitVec.ofNat 32 0).slt (BitVec.ofNat 32 n)) = _
      rw [slt_ofNat32 (by decide) hn]; simp [hpos]
    rw [hgt, hlt] at hg
    rw [if_neg]
    subst hg
    rw [show IntOp.cmpi .ne ((1#1).setWidth 32 - (0#1).setWidth 32) 1#32 = 0#1 from rfl, BitVec.zero_and]
    decide

/-- The same quotient of a whole array at an index. -/
theorem at_floor {s : Shape} (x : IVec s 32) (i : s.Idx) {n b : ℕ} (hx : x i = BitVec.ofNat 32 n) (hn : n < 2 ^ 31) (h0 : 0 < b) (hb : b < 2 ^ 31)
    (g k : IVec s 32) (hg : g i = (IntOp.cmpi .sgt (x i) 0#32).setWidth 32 - (IntOp.cmpi .slt (x i) 0#32).setWidth 32) (hk : k i = 1#32) :
    select (andi (cmpi .ne g k) (cmpi .ne (remsi x (broadcast s (BitVec.ofNat 32 b))) (broadcast s 0#32)))
      (subi (divsi x (broadcast s (BitVec.ofNat 32 b))) (broadcast s 1#32)) (divsi x (broadcast s (BitVec.ofNat 32 b))) i = BitVec.ofNat 32 (n / b) := by
  rw [hx] at hg
  refine Eq.trans ?_ (floordiv_word hn h0 hb (g i) hg)
  rw [← hx, ← hk]
  rfl

/-! ## Sums -/

theorem re_sum {ι : Type*} (s : Finset ι) (f : ι → ℝ) : ∑ i ∈ s, re (f i) = re (∑ i ∈ s, f i) := by
  classical
  induction s using Finset.induction_on with
  | empty => simp [re]
  | insert a s ha ih => rw [Finset.sum_insert ha, Finset.sum_insert ha, ih]; exact (EReal.coe_add _ _).symm

theorem re_mul (x y : ℝ) : re x * re y = re (x * y) := (EReal.coe_mul x y).symm
theorem re_add (x y : ℝ) : re x + re y = re (x + y) := (EReal.coe_add x y).symm
theorem re_sub (x y : ℝ) : re x - re y = re (x - y) := (EReal.coe_sub x y).symm
theorem re_min (x y : ℝ) : min (re x) (re y) = re (min x y) := (EReal.coe_strictMono.monotone.map_min).symm

theorem ind_mul (p q : Prop) [Decidable p] [Decidable q] : ind p * ind q = ind (p ∧ q) := by
  by_cases hp : p <;> by_cases hq : q <;> simp [ind, hp, hq]

/-- A matrix product of real entries. -/
theorem mm_re {M K N : ℕ} {φ ψ : FTy} (prec : Option ContractPrecision) (a : FVec Ideal ⟨2, ![M, K]⟩ φ) (b : FVec Ideal ⟨2, ![K, N]⟩ ψ)
    (z : FVec Ideal ⟨2, ![M, N]⟩ .f32) (hz : ∀ i, z i = (0 : EReal)) (t : Fin M) (c : Fin N) (f g : Fin K → ℝ)
    (ha : ∀ k, (a (ix2 t k) : EReal) = re (f k)) (hb : ∀ k, (b (ix2 k c) : EReal) = re (g k)) :
    (FloatOps.matmul (DotDims.plain M K N) prec a b z (ix2 t c) : EReal) = re (∑ k : Fin K, f k * g k) := by
  rw [at_mm prec a b z hz, ← re_sum]
  exact Finset.sum_congr rfl fun k _ => by rw [ha, hb, re_mul]

theorem ind_congr {p q : Prop} [Decidable p] [Decidable q] (h : p ↔ q) : ind p = ind q := if_congr h rfl rfl

theorem sum_ind {ι : Type*} [Fintype ι] (p : ι → Prop) [DecidablePred p] : ∑ i, ind (p i) = ((univ.filter p).card : ℝ) := by
  simp [ind]

/-- A sum with exactly one selected term. -/
theorem sum_pick {ι : Type*} [Fintype ι] (p : ι → Prop) [DecidablePred p] (f : ι → EReal) (i₀ : ι) (h : ∀ i, p i ↔ i = i₀) :
    ∑ i, re (ind (p i)) * f i = f i₀ := by
  rw [Finset.sum_eq_single i₀]
  · simp [ind, (h i₀).2 rfl]
  · intro i _ hi
    have : ¬ p i := fun hp => hi ((h i).1 hp)
    simp [ind, this]
  · simp

/-- A sum with at most one selected term, none of which is selected. -/
theorem sum_none {ι : Type*} [Fintype ι] (p : ι → Prop) [DecidablePred p] (f : ι → EReal) (h : ∀ i, ¬ p i) :
    ∑ i, re (ind (p i)) * f i = 0 := by
  refine Finset.sum_eq_zero fun i _ => ?_
  simp [ind, h i]

/-- The same over real numbers. -/
theorem pick_re {ι : Type*} [Fintype ι] (p : ι → Prop) [DecidablePred p] (f : ι → ℝ) (i₀ : ι) (h : ∀ i, p i ↔ i = i₀) :
    ∑ i, ind (p i) * f i = f i₀ := by
  rw [Finset.sum_eq_single i₀]
  · simp [ind, (h i₀).2 rfl]
  · intro i _ hi
    have : ¬ p i := fun hp => hi ((h i).1 hp)
    simp [ind, this]
  · simp

/-- The same over real numbers with the indicator on the right. -/
theorem sum_pick_re {ι : Type*} [Fintype ι] (p : ι → Prop) [DecidablePred p] (f : ι → ℝ) (i₀ : ι) (h : ∀ i, p i ↔ i = i₀) :
    ∑ i, f i * ind (p i) = f i₀ := by
  rw [Finset.sum_eq_single i₀]
  · simp [ind, (h i₀).2 rfl]
  · intro i _ hi
    have : ¬ p i := fun hp => hi ((h i).1 hp)
    simp [ind, this]
  · simp

end Cert.KernelIdeal.Run

end
-- ==== Proof.Count.lean ====
/-
Counting hits of experts: the rank of a token among the tokens of its expert, the tokens kept under the capacity of
25, and the position of a kept token among those a group of four experts keeps of one block of 128 tokens. Positions
are injective and below the number of kept tokens of the group.
-/
module

public import Idealize.ShloMosaic.Lib.ValueIdx

@[expose] public section

noncomputable section

namespace Cert.Count

open Finset

/-- The route of each token. -/
abbrev Route := Fin 1024 → BitVec 32

def hit (g : Route) (t : Fin 1024) (e : ℕ) : Prop := g t = BitVec.ofNat 32 e
instance (g : Route) (t e) : Decidable (hit g t e) := by unfold hit; infer_instance

/-- How many earlier tokens hit expert `e`. -/
def rank (g : Route) (t : Fin 1024) (e : ℕ) : ℕ := (univ.filter fun u : Fin 1024 => u < t ∧ hit g u e).card

def kept (g : Route) (t : Fin 1024) (e : ℕ) : Prop := rank g t e < 25 ∧ hit g t e
instance (g : Route) (t e) : Decidable (kept g t e) := by unfold kept; infer_instance

/-- How many tokens of block `o` expert `e` keeps. -/
def cnt (g : Route) (o e : ℕ) : ℕ := (univ.filter fun t : Fin 1024 => t.val / 128 = o ∧ kept g t e).card

/-- How many earlier tokens of the same block expert `e` keeps. -/
def before (g : Route) (t : Fin 1024) (e : ℕ) : ℕ := (univ.filter fun u : Fin 1024 => u.val / 128 = t.val / 128 ∧ u < t ∧ kept g u e).card

/-- How many tokens of block `o` the experts before `e` in its group of four keep. -/
def pre (g : Route) (o e : ℕ) : ℕ := ∑ e' ∈ Ico (4 * (e / 4)) e, cnt g o e'

/-- The position of token `t` of expert `e` in its block and group. -/
def pos (g : Route) (t : Fin 1024) (e : ℕ) : ℕ := pre g (t.val / 128) e + before g t e

/-- The first token of the block of token `t`. -/
def first (o : Fin 8) : Fin 1024 := ⟨128 * o.val, by omega⟩

variable (g : Route)

theorem hit_inj {t : Fin 1024} {e e' : ℕ} (he : e < 32) (he' : e' < 32) (h : hit g t e) (h' : hit g t e') : e = e' := by
  have := congrArg BitVec.toNat (h.symm.trans h')
  simp only [BitVec.toNat_ofNat] at this
  omega

theorem rank_mono {t u : Fin 1024} (h : u ≤ t) (e : ℕ) : rank g u e ≤ rank g t e :=
  card_le_card fun v hv => by
    simp only [mem_filter, mem_univ, true_and] at hv ⊢
    exact ⟨lt_of_lt_of_le hv.1 h, hv.2⟩

theorem rank_inj {t u : Fin 1024} {e : ℕ} (ht : hit g t e) (hu : hit g u e) (h : rank g t e = rank g u e) : t = u := by
  have key : ∀ {t u : Fin 1024}, hit g t e → t < u → rank g t e < rank g u e := by
    intro t u ht htu
    refine card_lt_card ⟨fun v hv => ?_, fun hs => ?_⟩
    · simp only [mem_filter, mem_univ, true_and] at hv ⊢
      exact ⟨hv.1.trans htu, hv.2⟩
    · have := hs (show t ∈ univ.filter fun v : Fin 1024 => v < u ∧ hit g v e by simpa using ⟨htu, ht⟩)
      simp at this
  rcases lt_trichotomy t u with h1 | h1 | h1
  · exact absurd h (key ht h1).ne
  · exact h1
  · exact absurd h (key hu h1).ne'

/-- The rank of a kept token: the rank of the first token of its block, and the kept tokens in between. -/
theorem rank_split {t : Fin 1024} {e : ℕ} (h : rank g t e < 25) (o : Fin 8) (ho : t.val / 128 = o.val) :
    rank g t e = rank g (first o) e + before g t e := by
  have hle : first o ≤ t := by
    show 128 * o.val ≤ t.val
    omega
  unfold before
  rw [rank, rank, ← card_union_of_disjoint]
  · congr 1
    ext u
    simp only [mem_filter, mem_univ, true_and, mem_union]
    constructor
    · rintro ⟨hu, hh⟩
      by_cases hf : u < first o
      · exact Or.inl ⟨hf, hh⟩
      · refine Or.inr ⟨?_, hu, lt_of_le_of_lt (rank_mono g hu.le e) h, hh⟩
        have h1 : 128 * o.val ≤ u.val := not_lt.1 hf
        have h2 : u.val < t.val := hu
        omega
    · rintro (⟨hu, hh⟩ | ⟨_, hu, hk⟩)
      · exact ⟨lt_of_lt_of_le hu hle, hh⟩
      · exact ⟨hu, hk.2⟩
  · rw [disjoint_left]
    intro u hu hu'
    simp only [mem_filter, mem_univ, true_and] at hu hu'
    have h1 : u.val < 128 * o.val := hu.1
    omega

theorem before_lt_cnt {t : Fin 1024} {e : ℕ} (h : kept g t e) : before g t e < cnt g (t.val / 128) e := by
  refine card_lt_card ⟨fun v hv => ?_, fun hs => ?_⟩
  · simp only [mem_filter, mem_univ, true_and] at hv ⊢
    exact ⟨hv.1, hv.2.2⟩
  · have := hs (show t ∈ univ.filter fun v : Fin 1024 => v.val / 128 = t.val / 128 ∧ kept g v e by simpa using h)
    simp at this

theorem before_lt_before {t u : Fin 1024} {e : ℕ} (h : kept g t e) (hb : t.val / 128 = u.val / 128) (hlt : t < u) :
    before g t e < before g u e := by
  refine card_lt_card ⟨fun v hv => ?_, fun hs => ?_⟩
  · simp only [mem_filter, mem_univ, true_and] at hv ⊢
    exact ⟨hv.1.trans hb, hv.2.1.trans hlt, hv.2.2⟩
  · have := hs (show t ∈ univ.filter fun v : Fin 1024 => v.val / 128 = u.val / 128 ∧ v < u ∧ kept g v e by simpa using ⟨hb, hlt, h⟩)
    simp at this

theorem pre_succ_le (o : ℕ) {e e' : ℕ} (hg : e / 4 = e' / 4) (hlt : e < e') : pre g o e + cnt g o e ≤ pre g o e' := by
  unfold pre
  rw [← Finset.sum_Ico_succ_top (by omega : 4 * (e / 4) ≤ e), hg]
  exact sum_le_sum_of_subset (Ico_subset_Ico_right hlt)

theorem pos_lt_pos {t u : Fin 1024} {e e' : ℕ} (h : kept g t e) (hb : t.val / 128 = u.val / 128) (hg : e / 4 = e' / 4) (hlt : e < e') :
    pos g t e < pos g u e' := by
  have h1 := before_lt_cnt g h
  have h2 := pre_succ_le g (t.val / 128) hg hlt
  unfold pos
  rw [← hb]
  omega

/-- Two kept tokens of one block and one group with one position are the same token of the same expert. -/
theorem pos_inj {t u : Fin 1024} {e e' : ℕ} (h : kept g t e) (h' : kept g u e') (hb : t.val / 128 = u.val / 128) (hg : e / 4 = e' / 4)
    (hp : pos g t e = pos g u e') : t = u ∧ e = e' := by
  rcases lt_trichotomy e e' with h1 | rfl | h1
  · exact absurd hp (pos_lt_pos g h hb hg h1).ne
  · refine ⟨?_, rfl⟩
    unfold pos at hp
    rw [← hb] at hp
    rcases lt_trichotomy t u with h2 | h2 | h2
    · have := before_lt_before g h hb h2; omega
    · exact h2
    · have := before_lt_before g h' hb.symm h2; omega
  · exact absurd hp (pos_lt_pos g h' hb.symm hg.symm h1).ne'

/-- A position is below the number of kept tokens of its block and group. -/
theorem pos_lt {t : Fin 1024} {e : ℕ} (h : kept g t e) : pos g t e < ∑ i ∈ range 4, cnt g (t.val / 128) (4 * (e / 4) + i) := by
  have h1 := before_lt_cnt g h
  have h2 : pre g (t.val / 128) e + cnt g (t.val / 128) e ≤ ∑ e' ∈ Ico (4 * (e / 4)) (4 * (e / 4) + 4), cnt g (t.val / 128) e' := by
    unfold pre
    rw [← Finset.sum_Ico_succ_top (by omega : 4 * (e / 4) ≤ e)]
    exact sum_le_sum_of_subset (Ico_subset_Ico_right (by omega))
  rw [Finset.sum_Ico_eq_sum_range, Nat.add_sub_cancel_left] at h2
  unfold pos
  omega

/-- The earlier experts of a group, counted from the group's first. -/
theorem pre_group (o d i : ℕ) (hi : i < 4) : pre g o (4 * d + i) = ∑ j : Fin 4, if j.val < i then cnt g o (4 * d + j.val) else 0 := by
  unfold pre
  rw [show (4 * d + i) / 4 = d by omega, Finset.sum_Ico_eq_sum_range, Nat.add_sub_cancel_left]
  interval_cases i <;> simp [Fin.sum_univ_four, Finset.sum_range_succ]

/-- The earlier experts of a group, counted over all experts. -/
theorem pre_all (o e : ℕ) (he : e < 32) : pre g o e = ∑ j : Fin 32, if j.val / 4 = e / 4 ∧ j.val < e then cnt g o j.val else 0 := by
  unfold pre
  rw [← Finset.sum_filter]
  refine Eq.trans ?_ (Finset.sum_map (univ.filter fun j : Fin 32 => j.val / 4 = e / 4 ∧ j.val < e) Fin.valEmbedding (cnt g o))
  refine sum_congr ?_ fun _ _ => rfl
  ext j
  simp only [mem_Ico, mem_map, mem_filter, mem_univ, true_and, Fin.valEmbedding_apply]
  constructor
  · rintro ⟨h1, h2⟩
    exact ⟨⟨j, by omega⟩, ⟨by simp; omega, by simpa using h2⟩, rfl⟩
  · rintro ⟨k, ⟨h1, h2⟩, rfl⟩
    omega

end Cert.Count

end
-- ==== Proof.ValA.lean ====
/-
The dispatch side at an index over the extended reals: the rank of each token among its expert's, the kept tokens, and
the matrix that sends token `t` to slot `r` of its device's 4 × 32 slots.
-/
module

public import proofs.«01_k».proof.Proof.Contents
public import proofs.«01_k».proof.Proof.Reads
public import proofs.«01_k».proof.Proof.Count

@[expose] public section

noncomputable section

namespace Cert.KernelIdeal.Run

open Cert.KernelIdeal Cert.KernelIdeal.Gen
open Idealize.ShloMosaic
open Idealize.ShloMosaic.TcCoe Idealize.ShloMosaic.ValueIdx Idealize.ShloMosaic.Routing
open Finset Cert.Count

/-- The routing table as a function of the token. -/
abbrev routeOf (rt : Vec Ideal S1024x1 .i32) : Route := fun t => rt (ix2 t (0 : Fin 1))

theorem val2_eq (d : Dev nD) : val2 d = BitVec.ofNat 32 d.val := by
  revert d; decide +kernel

variable (d : Dev nD) (rt : Vec Ideal S1024x1 .i32)

theorem base_word (e : Fin 4) :
    Scalar.muli (Scalar.remsi (Scalar.divsi (Dev.word d) 1#32) 8#32) 4#32 + BitVec.ofNat 32 e.val = BitVec.ofNat 32 (4 * d.val + e.val) := by
  have h : Scalar.remsi (Scalar.divsi (Dev.word d) 1#32) 8#32 = BitVec.ofNat 32 d.val := val2_eq d
  rw [h]
  show BitVec.ofNat 32 d.val * BitVec.ofNat 32 4 + BitVec.ofNat 32 e.val = _
  rw [← BitVec.ofNat_mul, ← BitVec.ofNat_add, Nat.mul_comm]

/-- The indicator that token `t` hits expert `e` of the device. -/
theorem onehot_at (t : Fin 1024) (e : Fin 4) : k0_pay2 (F := Ideal) d rt (ix2 t e) = re (ind (hit (routeOf rt) t (4 * d.val + e.val))) := by
  unfold k0_pay2 k0_pay1
  simp only [at_truncf, at_sitofp, at_extui, at_cmpi, at_col, at_row, at_addi, at_bc, shapeCast_self]
  rw [show iota .tc S1x4 32 [1] iota_S1x4_d1_w32 (ix2 (0 : Fin 1) e) = BitVec.ofNat 32 e.val from at_io1 _ _ _ e, base_word, eq_bits, real_ofBool]
  rfl

theorem lower_at (t u : Fin 1024) : k0_pay3 (F := Ideal) (ix2 t u) = re (ind (u < t)) := by
  unfold k0_pay3
  simp only [at_truncf, at_sitofp, at_extui, at_cmpi]
  rw [show iota .tc S1024x1024 32 [1] iota_S1024x1024_d1_w32 (ix2 t u) = BitVec.ofNat 32 u.val from at_io1 _ _ t u,
    show iota .tc S1024x1024 32 [0] iota_S1024x1024_d0_w32 (ix2 t u) = BitVec.ofNat 32 t.val from at_io0 _ _ t u, slt_word (by omega) (by omega), real_ofBool]
  rfl

theorem val21_at (t : Fin 1024) (e : Fin 4) : val21 d rt (ix2 t e) = re (rank (routeOf rt) t (4 * d.val + e.val) : ℝ) := by
  unfold val21 k0_pay4
  refine (at_mm (M := 1024) (K := 1024) (N := 4) none (k0_pay3 (F := Ideal)) (k0_pay2 (F := Ideal) d rt) _ zero_at t e).trans ?_
  simp only [lower_at, onehot_at, re_mul, ind_mul]
  rw [re_sum, sum_ind]
  rfl

theorem val28_at (t : Fin 1024) (e : Fin 4) : val28 d rt (ix2 t e) = re (ind (kept (routeOf rt) t (4 * d.val + e.val))) := by
  unfold val28 k0_pay5
  simp only [at_sitofp, at_extui, at_andi, at_cmpf, at_bc]
  rw [show k0_pay4 (F := Ideal) d rt (ix2 t e) = _ from val21_at d rt t e, onehot_at,
    show (Scalar.ofBits .f32 0x41C80000#32 : Ideal .f32) = re 25 from const25,
    show (Scalar.ofBits .bf16 0x0000#16 : Ideal .bf16) = re 0 from Ideal.ofBits_zero_bf16, cmp_olt, cmp_ogt, and_bits, real_ofBool]
  congr 1
  unfold ind
  refine if_congr ?_ rfl rfl
  unfold kept
  refine and_congr ?_ ?_
  · exact_mod_cast Iff.rfl
  · by_cases h : hit (routeOf rt) t (4 * d.val + e.val) <;> simp [h]

/-- Slot `r` belongs to expert `r / 32`. -/
theorem val58_at (e : Fin 4) (r : Fin 128) : val58 (F := Ideal) (ix2 e r) = re (ind (r.val / 32 = e.val)) := by
  have h := at_floor (s := S4x128) val29 (ix2 e r) (n := r.val) (b := 32) (at_io1 _ _ e r) (by omega) (by decide) (by decide)
    k0_pay7 k0_pay8 rfl rfl
  refine (congrArg (fun z : BitVec 32 => re (((IntOp.cmpi .eq z (val30 (ix2 e r))).setWidth 32).toInt : ℝ)) h).trans ?_
  rw [show val30 (ix2 e r) = BitVec.ofNat 32 e.val from at_io0 _ _ e r, eq_word (by omega) (by omega), real_ofBool]

/-- Token `t` is the one kept in slot `r` of the device's slots. -/
def inSlot (g : Route) (dv : ℕ) (t : Fin 1024) (r : Fin 128) : Prop :=
  kept g t (4 * dv + r.val / 32) ∧ rank g t (4 * dv + r.val / 32) = r.val % 32
instance (g dv t r) : Decidable (inSlot g dv t r) := by unfold inSlot; infer_instance

/-- A table over the device's experts spread over its slots. -/
theorem spread_at {M : ℕ} (a : FVec Ideal ⟨2, ![M, 4]⟩ .bf16) (f : Fin M → ℕ → ℝ) (hf : ∀ t (e : Fin 4), a (ix2 t e) = re (f t e.val))
    (z : FVec Ideal ⟨2, ![M, 128]⟩ .f32) (hz : ∀ i, z i = (0 : EReal)) (t : Fin M) (r : Fin 128) :
    (FloatOps.matmul (DotDims.plain M 4 128) none a (val58 (F := Ideal)) z (ix2 t r) : EReal) = re (f t (r.val / 32)) := by
  refine (at_mm none a _ z hz t r).trans ?_
  simp only [hf, val58_at, re_mul]
  rw [re_sum]
  congr 1
  exact sum_pick_re (fun k : Fin 4 => r.val / 32 = k.val) (fun k => f t k.val) ⟨r.val / 32, by omega⟩ fun k => by
    rw [Fin.ext_iff]; exact eq_comm

theorem val71_at (t : Fin 1024) (r : Fin 128) : val71 d rt (ix2 t r) = re (ind (inSlot (routeOf rt) d.val t r)) := by
  unfold val71 k0_pay10
  simp only [at_truncf, at_mulf, at_sitofp, at_extui, at_cmpf, at_bc, Idealize.ShloMosaic.remsi]
  have h1 := spread_at (truncf .bf16 (val21 d rt) bitsLt_bf16_f32) (fun t e => (rank (routeOf rt) t (4 * d.val + e) : ℝ))
    (fun t e => val21_at d rt t e) (constant S1024x128 .f32 0x00000000#32) zero_at t r
  have h2 := spread_at (truncf .bf16 (val28 d rt) bitsLt_bf16_f32) (fun t e => ind (kept (routeOf rt) t (4 * d.val + e)))
    (fun t e => val28_at d rt t e) (constant S1024x128 .f32 0x00000000#32) zero_at t r
  refine (congrArg₂ (fun p q : EReal => q * re (((Ideal.cmp .oeq p _).setWidth 32).toInt : ℝ)) h1 h2).trans ?_
  rw [show iota .tc S1024x128 32 [1] iota_S1024x128_d1_w32 (ix2 t r) = BitVec.ofNat 32 r.val from at_io1 _ _ t r, remsi_word _ (by omega) (by decide) (by decide), real_word (by omega), cmp_oeq,
    real_ofBool, re_mul, ind_mul]
  refine congrArg re (ind_congr (and_congr Iff.rfl ?_))
  exact Nat.cast_inj

end Cert.KernelIdeal.Run

end
-- ==== Proof.ValB.lean ====
/-
The send matrix at an index over the extended reals: row `48 k + j` of it takes the slot whose kept token lies in the
block of the `k`-th destination at position `j`.
-/
module

public import proofs.«01_k».proof.Proof.ValA

@[expose] public section

noncomputable section

namespace Cert.KernelIdeal.Run

open Cert.KernelIdeal Cert.KernelIdeal.Gen
open Idealize.ShloMosaic
open Idealize.ShloMosaic.TcCoe Idealize.ShloMosaic.ValueIdx Idealize.ShloMosaic.Routing
open Finset Cert.Count

variable (d : Dev nD) (rt : Vec Ideal S1024x1 .i32)

/-- The block of tokens the `k`-th slot block goes to. -/
def dest (d : Dev nD) (k : Fin 8) : Fin 8 := ⟨(d.val + k.val) % 8, Nat.mod_lt _ (by decide)⟩

theorem val120_at (k : Fin 8) : val120 d (ix2 k (0 : Fin 1)) = BitVec.ofNat 32 (dest d k).val := by
  unfold val120 k0_pay17
  simp only [at_addi, at_bc, Idealize.ShloMosaic.remsi]
  rw [show iota .tc S8x1 32 [0] iota_S8x1_d0_w32 (ix2 k (0 : Fin 1)) = BitVec.ofNat 32 k.val from at_io0 _ _ k _, val2_eq, ← BitVec.ofNat_add,
    remsi_word _ (by have : d.val < 8 := d.isLt; omega) (by decide) (by decide)]
  rfl

/-- Token `t` lies in the block of the `k`-th destination. -/
theorem block_at (k : Fin 8) (t : Fin 1024) (g s : IVec S8x1024 32) (hg : ∀ i, g i = (IntOp.cmpi .sgt (val121 i) 0#32).setWidth 32 - (IntOp.cmpi .slt (val121 i) 0#32).setWidth 32)
    (hs : ∀ i, s i = 1#32) :
    re (((IntOp.cmpi .eq (select (andi (cmpi .ne g s) (cmpi .ne (remsi val121 (broadcast S8x1024 128#32)) (broadcast S8x1024 0#32)))
      (subi k0_pay18 (broadcast S8x1024 1#32)) k0_pay18 (ix2 k t)) (val120 d (ix2 k (0 : Fin 1)))).setWidth 32).toInt : ℝ)
      = re (ind (t.val / 128 = (dest d k).val)) := by
  have h := at_floor (s := S8x1024) val121 (ix2 k t) (n := t.val) (b := 128) (at_io1 _ _ k t) (by omega) (by decide) (by decide) g s (hg _) (hs _)
  refine (congrArg (fun z : BitVec 32 => re (((IntOp.cmpi .eq z (val120 d (ix2 k (0 : Fin 1)))).setWidth 32).toInt : ℝ)) h).trans ?_
  rw [val120_at, eq_word (by omega) (by have := (dest d k).isLt; omega), real_ofBool]

/-- The indicator of the block over one row of the tokens, times the kept tokens of an expert. -/
theorem cnt_sum (g : Route) (o e : ℕ) : ∑ t : Fin 1024, ind (t.val / 128 = o) * ind (kept g t e) = (cnt g o e : ℝ) := by
  simp only [ind_mul]
  exact sum_ind _

theorem earlier_at (j e : Fin 4) :
    re (((IntOp.cmpi .slt (iota .tc S4x4 32 [0] iota_S4x4_d0_w32 (ix2 j e)) (iota .tc S4x4 32 [1] iota_S4x4_d1_w32 (ix2 j e))).setWidth 32).toInt : ℝ)
      = re (ind (j.val < e.val)) := by
  rw [show iota .tc S4x4 32 [0] iota_S4x4_d0_w32 (ix2 j e) = BitVec.ofNat 32 j.val from at_io0 _ _ j e,
    show iota .tc S4x4 32 [1] iota_S4x4_d1_w32 (ix2 j e) = BitVec.ofNat 32 e.val from at_io1 _ _ j e, slt_word (by omega) (by omega), real_ofBool]

/-- The tokens the destination's block keeps at the experts of the group before the `e`-th. -/
def earlier (g : Route) (d : Dev nD) (k : Fin 8) (e : ℕ) : ℕ :=
  ∑ j : Fin 4, if j.val < e then cnt g (dest d k).val (4 * d.val + j.val) else 0

theorem earlier_eq (g : Route) (k : Fin 8) (e : ℕ) :
    ∑ j : Fin 4, (cnt g (dest d k).val (4 * d.val + j.val) : ℝ) * ind (j.val < e) = (earlier g d k e : ℝ) := by
  unfold earlier
  rw [Nat.cast_sum]
  refine Finset.sum_congr rfl fun j _ => ?_
  by_cases h : j.val < e <;> simp [h]

theorem val171_at (k : Fin 8) (r : Fin 128) : val171 d rt (ix2 k r) = re (earlier (routeOf rt) d k (r.val / 32) : ℝ) := by
  unfold val171 k0_pay20
  refine spread_at (M := 8) _ (fun k e => (earlier (routeOf rt) d k e : ℝ)) (fun k e => ?_) _ zero_at k r
  rw [← earlier_eq]
  refine mm_re (M := 8) (K := 4) (N := 4) none _ _ _ zero_at k e _ _ (fun j => ?_) (fun j => earlier_at j e)
  rw [← cnt_sum]
  refine mm_re (M := 8) (K := 1024) (N := 4) none _ _ _ zero_at k j _ _ (fun t => ?_) (fun t => val28_at d rt t j)
  exact block_at d k t _ _ (fun _ => rfl) (fun _ => rfl)

theorem start_at (k : Fin 8) (t : Fin 1024) :
    re (((IntOp.cmpi .eq (val121 (ix2 k t)) (broadcastTo S8x1024 (muli (val120 d) (broadcast S8x1 128#32)) broadcasts_S8x1_S8x1024 (ix2 k t))).setWidth 32).toInt : ℝ)
      = re (ind (t = first (dest d k))) := by
  have h1 : broadcastTo S8x1024 (muli (val120 d) (broadcast S8x1 128#32)) broadcasts_S8x1_S8x1024 (ix2 k t)
      = BitVec.ofNat 32 ((dest d k).val * 128) := by
    refine (at_col _ _ k t).trans ?_
    rw [at_muli, val120_at, at_bc, BitVec.ofNat_mul]
  rw [h1, show val121 (ix2 k t) = BitVec.ofNat 32 t.val from at_io1 _ _ k t, eq_word (by omega) (by have := (dest d k).isLt; omega), real_ofBool]
  refine congrArg re (ind_congr ?_)
  rw [Fin.ext_iff, Nat.mul_comm]
  exact Iff.rfl

/-- The first rows of the destinations' blocks, as a product. -/
theorem startRank_at (a : FVec Ideal S8x1024 .f32) (b : FVec Ideal S1024x4 .f32) (k : Fin 8) (e : Fin 4) (o : Fin 1024) (f : Fin 1024 → ℝ)
    (ha : ∀ t, (a (ix2 k t) : EReal) = re (ind (t = o))) (hb : ∀ t, (b (ix2 t e) : EReal) = re (f t)) :
    (FloatOps.matmul dot_S8x1024_S1024x4_S8x4_1_0_0_1_n_n none a b (constant S8x4 .f32 0x00000000#32) (ix2 k e) : EReal) = re (f o) := by
  refine (mm_re (M := 8) (K := 1024) (N := 4) none a b _ zero_at k e _ _ ha hb).trans ?_
  exact congrArg re (pick_re (fun t => t = o) f o fun _ => Iff.rfl)

theorem cap_at (v : FVec Ideal S8x4 .f32) (k : Fin 8) (e : Fin 4) (x : ℝ) (hv : (v (ix2 k e) : EReal) = re x) :
    ((truncf .bf16 (minimumf v (broadcast S8x4 (Scalar.ofBits .f32 0x41C80000#32 : Ideal .f32))) bitsLt_bf16_f32 : FVec Ideal S8x4 .bf16) (ix2 k e) : EReal)
      = re (min x 25) := by
  rw [at_truncf, at_minf, at_bc, show (Scalar.ofBits .f32 0x41C80000#32 : Ideal .f32) = re 25 from const25, hv, re_min]

/-- The rank the destination's block starts from, capped. -/
theorem val173_at (k : Fin 8) (r : Fin 128) :
    val173 d rt (ix2 k r) = re (min (rank (routeOf rt) (first (dest d k)) (4 * d.val + r.val / 32) : ℝ) 25) := by
  unfold val173 k0_pay21
  exact spread_at (M := 8) _ (fun k e => min (rank (routeOf rt) (first (dest d k)) (4 * d.val + e) : ℝ) 25)
    (fun k e => cap_at _ k e _ (startRank_at _ _ k e _ _ (fun t => start_at d k t) (fun t => val21_at d rt t e))) _ zero_at k r

theorem remcol_at (k : Fin 8) (r : Fin 128) : remsi val174 (broadcast S8x128 32#32) (ix2 k r) = BitVec.ofNat 32 (r.val % 32) := by
  have h : val174 (ix2 k r) = BitVec.ofNat 32 r.val := at_io1 _ _ k r
  refine (congrArg (fun z : BitVec 32 => IntOp.remsi .vector z (BitVec.ofNat 32 32)) h).trans ?_
  exact remsi_word _ (by omega) (by decide) (by decide)

theorem shift_at (u v : FVec Ideal S8x128 .f32) (w : IVec S8x128 32) (i : S8x128.Idx) (x y : ℝ) (n : ℕ) (hn : n < 2 ^ 31)
    (hu : (u i : EReal) = re x) (hv : (v i : EReal) = re y) (hw : w i = BitVec.ofNat 32 n) :
    ((subf (addf u (sitofp .f32 w)) v : FVec Ideal S8x128 .f32) i : EReal) = re (x + (n : ℝ) - y) := by
  rw [at_subf, at_addf, at_sitofp, hu, hv, hw, real_word hn, re_add, re_sub]

theorem val179_at (k : Fin 8) (r : Fin 128) :
    val179 d rt (ix2 k r) = re ((earlier (routeOf rt) d k (r.val / 32) : ℝ) + ((r.val % 32 : ℕ) : ℝ)
      - min (rank (routeOf rt) (first (dest d k)) (4 * d.val + r.val / 32) : ℝ) 25) := by
  unfold val179 k0_pay22
  exact shift_at _ _ _ _ _ _ _ (by omega) (val171_at d rt k r) (val173_at d rt k r) (remcol_at k r)

/-- A slot holds at most one token. -/
theorem inSlot_unique {g : Route} {dv : ℕ} {t u : Fin 1024} {r : Fin 128} (ht : inSlot g dv t r) (hu : inSlot g dv u r) : t = u :=
  rank_inj g ht.1.2 hu.1.2 (ht.2.trans hu.2.symm)

/-- How many tokens slot `r` holds. -/
theorem full_at (r : Fin 128) :
    (FloatOps.matmul (F := Ideal) dot_S1x1024_S1024x128_S1x128_1_0_0_1_n_n none (broadcast S1x1024 (Scalar.ofBits .bf16 0x3F80#16)) (val71 d rt)
      (constant S1x128 .f32 0x00000000#32) (ix2 (0 : Fin 1) r) : EReal) = re (∑ t : Fin 1024, 1 * ind (inSlot (routeOf rt) d.val t r)) :=
  mm_re (M := 1) (K := 1024) (N := 128) none _ _ _ zero_at 0 r _ _ (fun t => Ideal.ofBits_one_bf16) (fun t => val71_at d rt t r)

/-- The block of the token in slot `r`. -/
theorem which_at (v : IVec S1x1024 32) (hv : ∀ t : Fin 1024, v (ix2 (0 : Fin 1) t) = BitVec.ofNat 32 (t.val / 128)) (r : Fin 128) :
    (FloatOps.matmul (F := Ideal) dot_S1x1024_S1024x128_S1x128_1_0_0_1_n_n none (sitofp .bf16 v) (val71 d rt)
      (constant S1x128 .f32 0x00000000#32) (ix2 (0 : Fin 1) r) : EReal)
      = re (∑ t : Fin 1024, ((t.val / 128 : ℕ) : ℝ) * ind (inSlot (routeOf rt) d.val t r)) := by
  refine mm_re (M := 1) (K := 1024) (N := 128) none _ _ _ zero_at 0 r _ _ (fun t => ?_) (fun t => val71_at d rt t r)
  rw [at_sitofp, hv, real_word (by omega)]

/-- The sums of the two products, combined: one where slot `r` holds a token of block `o`. -/
theorem held (g : Route) (dv o : ℕ) (r : Fin 128) :
    (∑ t : Fin 1024, 1 * ind (inSlot g dv t r)) * ind ((∑ t : Fin 1024, ((t.val / 128 : ℕ) : ℝ) * ind (inSlot g dv t r)) = (o : ℝ))
      = ind (∃ t, inSlot g dv t r ∧ t.val / 128 = o) := by
  by_cases h : ∃ t, inSlot g dv t r
  · obtain ⟨t, ht⟩ := h
    have hu : ∀ u, inSlot g dv u r ↔ u = t := fun u => ⟨fun hu => inSlot_unique hu ht, fun h => h ▸ ht⟩
    rw [sum_pick_re (fun u => inSlot g dv u r) (fun _ => 1) t hu, one_mul]
    refine ind_congr ?_
    rw [sum_pick_re (fun u => inSlot g dv u r) (fun u => ((u.val / 128 : ℕ) : ℝ)) t hu, Nat.cast_inj]
    exact ⟨fun h => ⟨t, ht, h⟩, fun ⟨u, h, hb⟩ => (hu u).1 h ▸ hb⟩
  · have hn : ∀ u, ¬ inSlot g dv u r := fun u hu => h ⟨u, hu⟩
    have : ∑ u : Fin 1024, 1 * ind (inSlot g dv u r) = 0 := Finset.sum_eq_zero fun u _ => by simp [ind, hn u]
    rw [this, zero_mul, ind, if_neg]
    rintro ⟨u, hu, _⟩
    exact hn u hu

/-- The token of slot `r` lies in the block of the `k`-th destination. -/
theorem val216_at (k : Fin 8) (r : Fin 128) :
    val216 d rt (ix2 k r) = re (ind (∃ t, inSlot (routeOf rt) d.val t r ∧ t.val / 128 = (dest d k).val)) := by
  unfold val216 k0_pay23
  rw [at_mulf, at_sitofp, at_extui, at_cmpf]
  have hcol := (at_col (sitofp .f32 (val120 d) : FVec Ideal S8x1 .f32) broadcasts_S8x1_S8x128 k r)
  rw [at_sitofp, val120_at, real_word (by have := (dest d k).isLt; omega)] at hcol
  rw [hcol, ← held]
  refine Eq.trans (congrArg₂ (fun p q : EReal => p * re (((Ideal.cmp .oeq q (re ((dest d k).val : ℝ))).setWidth 32).toInt : ℝ))
    ((at_row _ broadcasts_S1x128_S8x128 k r).trans (full_at d rt r)) ((at_row _ broadcasts_S1x128_S8x128 k r).trans
      (which_at d rt _ (fun t => at_floor (s := S1x1024) _ (ix2 (0 : Fin 1) t) (n := t.val) (b := 128) (at_io1 _ _ _ t) (by omega) (by decide) (by decide) _ _ rfl rfl) r))) ?_
  rw [cmp_oeq, real_ofBool, re_mul]

/-- Row `j` of slot block `k` takes slot `r`. -/
def takes (g : Route) (d : Dev nD) (k : Fin 8) (j : ℕ) (r : Fin 128) : Prop :=
  ∃ t, inSlot g d.val t r ∧ t.val / 128 = (dest d k).val ∧ pos g t (4 * d.val + r.val / 32) = j
instance (g d k j r) : Decidable (takes g d k j r) := by unfold takes; infer_instance

/-- Where the slot is taken at all, the printed position is the position of its token. -/
theorem val179_pos {k : Fin 8} {r : Fin 128} {t : Fin 1024} (ht : inSlot (routeOf rt) d.val t r) (hb : t.val / 128 = (dest d k).val) :
    val179 d rt (ix2 k r) = re (pos (routeOf rt) t (4 * d.val + r.val / 32) : ℝ) := by
  rw [val179_at]
  refine congrArg re ?_
  have hs := rank_split (routeOf rt) ht.1.1 (dest d k) hb
  have hlt := ht.1.1
  have hcap : (rank (routeOf rt) (first (dest d k)) (4 * d.val + r.val / 32) : ℝ) ≤ 25 := by
    have : rank (routeOf rt) (first (dest d k)) (4 * d.val + r.val / 32) ≤ 25 := by omega
    exact_mod_cast this
  rw [min_eq_left hcap, ← ht.2, hs]
  unfold pos
  rw [pre_group _ _ _ _ (by omega), hb]
  unfold earlier
  push_cast
  ring

/-- Row `48 k + j` of the send matrix reads the `k`-th destination. -/
theorem rowblock_at (k k' : Fin 8) (j : Fin 48) (i : Fin 384) (hi : i.val = 48 * k.val + j.val) (g s : IVec S384x8 32)
    (hg : ∀ i, g i = (IntOp.cmpi .sgt (val217 i) 0#32).setWidth 32 - (IntOp.cmpi .slt (val217 i) 0#32).setWidth 32) (hs : ∀ i, s i = 1#32) :
    re (((IntOp.cmpi .eq (select (andi (cmpi .ne g s) (cmpi .ne (remsi val217 (broadcast S384x8 48#32)) (broadcast S384x8 0#32)))
      (subi k0_pay24 (broadcast S384x8 1#32)) k0_pay24 (ix2 i k')) (val218 (ix2 i k'))).setWidth 32).toInt : ℝ) = re (ind (k' = k)) := by
  have h := at_floor (s := S384x8) val217 (ix2 i k') (n := i.val) (b := 48) (at_io0 _ _ i k') (by omega) (by decide) (by decide) g s (hg _) (hs _)
  refine (congrArg (fun z : BitVec 32 => re (((IntOp.cmpi .eq z (val218 (ix2 i k'))).setWidth 32).toInt : ℝ)) h).trans ?_
  rw [show val218 (ix2 i k') = BitVec.ofNat 32 k'.val from at_io1 _ _ i k', eq_word (by omega) (by omega), real_ofBool]
  refine congrArg re (ind_congr ?_)
  rw [Fin.ext_iff]
  omega

theorem rowpick_at (k : Fin 8) (i : Fin 384) (r : Fin 128) (a : FVec Ideal S384x8 .bf16) (ha : ∀ k', (a (ix2 i k') : EReal) = re (ind (k' = k)))
    (v : FVec Ideal S8x128 .bf16) (x : ℝ) (hv : (v (ix2 k r) : EReal) = re x) :
    (FloatOps.matmul dot_S384x8_S8x128_S384x128_1_0_0_1_n_n none a v (constant S384x128 .f32 0x00000000#32) (ix2 i r) : EReal) = re x := by
  refine (at_mm (M := 384) (K := 8) (N := 128) none a v _ zero_at i r).trans ?_
  simp only [ha]
  exact (sum_pick (fun k' => k' = k) _ k fun _ => Iff.rfl).trans hv

theorem val259_raw (k : Fin 8) (j : Fin 48) (r : Fin 128) (i : Fin 384) (hi : i.val = 48 * k.val + j.val) (x y : ℝ)
    (hx : val179 d rt (ix2 k r) = re x) (hy : val216 d rt (ix2 k r) = re y) : val259 d rt (ix2 i r) = re (ind ((j.val : ℝ) = x) * y) := by
  unfold val259 k0_pay26
  rw [at_truncf, at_mulf, at_sitofp, at_extui, at_cmpf]
  refine Eq.trans (congrArg₂ (fun p q : EReal => re (((Ideal.cmp .oeq _ p).setWidth 32).toInt : ℝ) * q)
    (rowpick_at k i r _ (fun k' => rowblock_at k k' j i hi _ _ (fun _ => rfl) (fun _ => rfl)) _ x hx)
    (rowpick_at k i r _ (fun k' => rowblock_at k k' j i hi _ _ (fun _ => rfl) (fun _ => rfl)) _ y hy)) ?_
  rw [at_sitofp, show remsi (iota .tc S384x128 32 [0] iota_S384x128_d0_w32) (broadcast S384x128 48#32) (ix2 i r) = BitVec.ofNat 32 (i.val % 48) from by
    refine (congrArg (fun z => IntOp.remsi .vector z 48#32) (at_io0 _ _ i r)).trans ?_
    exact remsi_word _ (by omega) (by decide) (by decide), real_word (by omega), show i.val % 48 = j.val by omega, cmp_oeq, real_ofBool, re_mul]

theorem val259_at (k : Fin 8) (j : Fin 48) (r : Fin 128) (i : Fin 384) (hi : i.val = 48 * k.val + j.val) :
    val259 d rt (ix2 i r) = re (ind (takes (routeOf rt) d k j.val r)) := by
  by_cases h : ∃ t, inSlot (routeOf rt) d.val t r ∧ t.val / 128 = (dest d k).val
  · obtain ⟨t, ht, hb⟩ := h
    rw [val259_raw d rt k j r i hi _ _ (val179_pos d rt ht hb) (val216_at d rt k r), ind_mul]
    refine congrArg re (ind_congr ?_)
    constructor
    · rintro ⟨hp, _⟩
      exact ⟨t, ht, hb, (Nat.cast_inj.1 hp).symm⟩
    · rintro ⟨u, hu, _, hp⟩
      rw [inSlot_unique ht hu]
      exact ⟨congrArg _ hp.symm, u, hu, by rw [← inSlot_unique ht hu]; exact hb⟩
  · rw [val259_raw d rt k j r i hi _ _ (val179_at d rt k r) (val216_at d rt k r), ind_mul]
    refine congrArg re (ind_congr ?_)
    exact ⟨fun hh => absurd hh.2 h, fun ⟨u, hu, hb, _⟩ => absurd ⟨u, hu, hb⟩ h⟩

end Cert.KernelIdeal.Run

end
-- ==== Proof.ValC.lean ====
/-
The dispatched rows at an index over the extended reals: a slot's row of `y` is its token's row times its expert's
matrix, and a row of the send buffer is the sum of the slots it takes.
-/
module

public import proofs.«01_k».proof.Proof.ValB
public import Idealize.ShloMosaic.Lib.Pointwise.Contract

@[expose] public section

noncomputable section

namespace Cert.KernelIdeal.Run

open Cert.KernelIdeal Cert.KernelIdeal.Gen
open Idealize.ShloMosaic hiding ix0 ix1 ix2 ix3
open Idealize.ShloMosaic.TcCoe Idealize.ShloMosaic.ValueIdx Idealize.ShloMosaic.Routing
open Finset Cert.Count

variable (d : Dev nD) (rt : Vec Ideal S1024x1 .i32) (x : Vec Ideal S1024x256 .f32) (w : Vec Ideal S4x256x512 .f32)

/-- A product of a matrix's transpose. -/
theorem mmT_at (a : FVec Ideal S1024x128 .bf16) (b : FVec Ideal S1024x256 .bf16) (r : Fin 128) (c : Fin 256) :
    (FloatOps.matmul dot_S1024x128_S1024x256_S128x256_0_0_1_1_n_n none a b (constant S128x256 .f32 0x00000000#32) (ix2 r c) : EReal)
      = ∑ t : Fin 1024, (a (ix2 t r) * b (ix2 t c) : EReal) := by
  rw [Ideal.matmul_def]
  refine (Ideal.matmul_apply₁_of dot_S1024x128_S1024x256_S128x256_0_0_1_1_n_n (a := 0) rfl (K := 1024) rfl a b (constant (F := Ideal) S128x256 .f32 0x00000000#32) (ix2 r c)
    (fun t => ix2 t r) (fun t => ix2 t c) (fun t => ?_) (fun t => ?_)).trans ?_
  · funext ax
    match ax with
    | ⟨0, _⟩ => rfl
    | ⟨1, _⟩ => rfl
  · funext ax
    match ax with
    | ⟨0, _⟩ => rfl
    | ⟨1, _⟩ => rfl
  · rw [zero_at, zero_add]

/-- The row of slot `r`: the sum over the tokens it holds. -/
theorem val75_at (r : Fin 128) (c : Fin 256) :
    (val75 d rt x (ix2 r c) : EReal) = ∑ t : Fin 1024, re (ind (inSlot (routeOf rt) d.val t r)) * (x (ix2 t c) : EReal) := by
  unfold val75 k0_pay11
  refine (mmT_at _ _ r c).trans (Finset.sum_congr rfl fun t _ => congrArg₂ (· * ·) (val71_at d rt t r) ?_)
  rw [at_truncf, shapeCast_self]

/-- A slice of the slots' rows times an expert's matrix. -/
theorem yblock_at (v : FVec Ideal S128x256 .f32) (o : ℕ) (hs : S128x256.Slices ![o, 0] S32x256) (u : Vec Ideal S1x256x512 .f32) (i : Fin 32) (r : Fin 128)
    (hr : r.val = o + i.val) (h : Fin 512) :
    ((shapeCast S32x512 (truncf .bf16 (FloatOps.matmul dot_S32x256_S256x512_S32x512_1_0_0_1_n_n none
      (truncf .bf16 (extractStridedSlice S32x256 ![o, 0] v hs) bitsLt_bf16_f32)
      (truncf .bf16 (shapeCast S256x512 u shapeCasts_S1x256x512_S256x512 : FVec Ideal S256x512 .f32) bitsLt_bf16_f32)
      (constant S32x512 .f32 0x00000000#32)) bitsLt_bf16_f32 : FVec Ideal S32x512 .bf16) shapeCasts_S32x512_S32x512 : FVec Ideal S32x512 .bf16) (ix2 i h) : EReal)
      = ∑ c : Fin 256, (v (ix2 r c) * u (ix3 (0 : Fin 1) c h) : EReal) := by
  rw [shapeCast_self, at_truncf]
  refine (at_mm (M := 32) (K := 256) (N := 512) none _ _ _ zero_at i h).trans (Finset.sum_congr rfl fun c _ => congrArg₂ (· * ·) ?_ ?_)
  · rw [at_truncf]
    exact slice2_axis0_apply o v hs i c r hr
  · rw [at_truncf]
    exact shapeCast_1ab_ab_apply u shapeCasts_S1x256x512_S256x512 c h

theorem wread (e : Fin 4) (inb) (c : Fin 256) (h : Fin 512) :
    wM.view.readAt (Elt Ideal) (Rect.unit (s := S4x256x512) ![e.val, 0, 0] S1x256x512.size inb).toLoadRect w (ix3 (0 : Fin 1) c h) = w (ix3 e c h) := by
  refine congrArg w ?_
  funext ax
  apply Fin.ext
  match ax with
  | ⟨0, _⟩ => show e.val + 1 * 0 = e.val; omega
  | ⟨1, _⟩ => show 0 + 1 * c.val = c.val; omega
  | ⟨2, _⟩ => show 0 + 1 * h.val = h.val; omega

theorem yBlock_at (e : Fin 4) (i : Fin 32) (r : Fin 128) (hr : r.val = 32 * e.val + i.val) (h : Fin 512) :
    (yBlock d rt x w e (ix2 i h) : EReal) = ∑ c : Fin 256, (val75 d rt x (ix2 r c) * w (ix3 e c h) : EReal) := by
  match e with
  | ⟨0, _⟩ =>
    refine (yblock_at (val75 d rt x) 0 slices_S128x256_o0_0_S32x256 _ i r hr h).trans ?_
    exact Finset.sum_congr rfl fun c _ => congrArg (fun z : EReal => _ * z) (wread w 0 _ c h)
  | ⟨1, _⟩ =>
    refine (yblock_at (val75 d rt x) 32 slices_S128x256_o32_0_S32x256 _ i r hr h).trans ?_
    exact Finset.sum_congr rfl fun c _ => congrArg (fun z : EReal => _ * z) (wread w 1 _ c h)
  | ⟨2, _⟩ =>
    refine (yblock_at (val75 d rt x) 64 slices_S128x256_o64_0_S32x256 _ i r hr h).trans ?_
    exact Finset.sum_congr rfl fun c _ => congrArg (fun z : EReal => _ * z) (wread w 2 _ c h)
  | ⟨3, _⟩ =>
    refine (yblock_at (val75 d rt x) 96 slices_S128x256_o96_0_S32x256 _ i r hr h).trans ?_
    exact Finset.sum_congr rfl fun c _ => congrArg (fun z : EReal => _ * z) (wread w 3 _ c h)

/-- A slot's row of `y`, where the slot holds token `t`. -/
theorem yC_at (r : Fin 128) (h : Fin 512) (t : Fin 1024) (ht : inSlot (routeOf rt) d.val t r) (e : Fin 4) (he : e.val = r.val / 32) :
    (yC d rt x w (ix2 r h) : EReal) = ∑ c : Fin 256, (x (ix2 t c) * w (ix3 e c h) : EReal) := by
  have h0 : yC d rt x w (ix2 r h) = yBlock d rt x w e (ix2 ⟨r.val % 32, Nat.mod_lt _ (by decide)⟩ h) := by
    have hlt : r.val / 32 < 4 := by clear he; omega
    obtain rfl : e = ⟨r.val / 32, hlt⟩ := Fin.ext he
    refine congrArg (yBlock d rt x w ⟨r.val / 32, hlt⟩) ?_
    funext ax
    match ax with
    | ⟨0, _⟩ => rfl
    | ⟨1, _⟩ => rfl
  rw [h0, yBlock_at d rt x w e _ r (by show r.val = 32 * e.val + r.val % 32; omega) h]
  refine Finset.sum_congr rfl fun c _ => congrArg (fun z : EReal => z * _) ?_
  rw [val75_at]
  exact sum_pick (fun u => inSlot (routeOf rt) d.val u r) _ t fun u => ⟨fun hu => inSlot_unique hu ht, fun h => h ▸ ht⟩

/-- A slice of the send matrix times `y`. -/
theorem sblock_at (v : FVec Ideal S384x128 .bf16) (o : ℕ) (hs : S384x128.Slices ![o, 0] S48x128) (y : FVec Ideal S128x512 .bf16) (j : Fin 48) (i : Fin 384)
    (hi : i.val = o + j.val) (h : Fin 512) :
    ((shapeCast S1x48x512 (truncf .bf16 (FloatOps.matmul dot_S48x128_S128x512_S48x512_1_0_0_1_n_n none (extractStridedSlice S48x128 ![o, 0] v hs) y
      (constant S48x512 .f32 0x00000000#32)) bitsLt_bf16_f32 : FVec Ideal S48x512 .bf16) shapeCasts_S48x512_S1x48x512 : FVec Ideal S1x48x512 .bf16)
      (ix3 (0 : Fin 1) j h) : EReal) = ∑ r : Fin 128, (v (ix2 i r) * y (ix2 r h) : EReal) := by
  refine (shapeCast_ab_1ab_apply _ shapeCasts_S48x512_S1x48x512 0 j h).trans ?_
  rw [at_truncf]
  refine (at_mm (M := 48) (K := 128) (N := 512) none _ _ _ zero_at j h).trans (Finset.sum_congr rfl fun r _ => congrArg (fun z : EReal => z * _) ?_)
  exact slice2_axis0_apply o v hs j r i hi

theorem sendBlock_at (k : Fin 8) (j : Fin 48) (h : Fin 512) (i : Fin 384) (hi : i.val = 48 * k.val + j.val) :
    (sendBlock d rt x w k (ix3 (0 : Fin 1) j h) : EReal) = ∑ r : Fin 128, (val259 d rt (ix2 i r) * yC d rt x w (ix2 r h) : EReal) := by
  match k with
  | ⟨0, _⟩ => exact sblock_at (val259 d rt) 0 slices_S384x128_o0_0_S48x128 _ j i hi h
  | ⟨1, _⟩ => exact sblock_at (val259 d rt) 48 slices_S384x128_o48_0_S48x128 _ j i hi h
  | ⟨2, _⟩ => exact sblock_at (val259 d rt) 96 slices_S384x128_o96_0_S48x128 _ j i hi h
  | ⟨3, _⟩ => exact sblock_at (val259 d rt) 144 slices_S384x128_o144_0_S48x128 _ j i hi h
  | ⟨4, _⟩ => exact sblock_at (val259 d rt) 192 slices_S384x128_o192_0_S48x128 _ j i hi h
  | ⟨5, _⟩ => exact sblock_at (val259 d rt) 240 slices_S384x128_o240_0_S48x128 _ j i hi h
  | ⟨6, _⟩ => exact sblock_at (val259 d rt) 288 slices_S384x128_o288_0_S48x128 _ j i hi h
  | ⟨7, _⟩ => exact sblock_at (val259 d rt) 336 slices_S384x128_o336_0_S48x128 _ j i hi h

/-- A row of the send buffer is the sum of the slots it takes. -/
theorem sendV_at (k : Fin 8) (j : Fin 48) (h : Fin 512) :
    (sendV d rt x w (ix3 k j h) : EReal) = ∑ r : Fin 128, re (ind (takes (routeOf rt) d k j.val r)) * (yC d rt x w (ix2 r h) : EReal) := by
  have h0 : sendV d rt x w (ix3 k j h) = sendBlock d rt x w k (ix3 (0 : Fin 1) j h) := by
    refine congrArg (sendBlock d rt x w k) ?_
    funext ax
    match ax with
    | ⟨0, _⟩ => rfl
    | ⟨1, _⟩ => rfl
    | ⟨2, _⟩ => rfl
  rw [h0, sendBlock_at d rt x w k j h ⟨48 * k.val + j.val, by omega⟩ rfl]
  exact Finset.sum_congr rfl fun r _ => by rw [val259_at d rt k j r ⟨48 * k.val + j.val, by omega⟩ rfl]

theorem fin_of {n : ℕ} (h : n < 128) : ∃ r : Fin 128, r.val = n := ⟨⟨n, h⟩, rfl⟩

/-- The row at the position of a kept token `t` of expert `4 d + e`, in the slot block of its block's owner. -/
theorem sendV_row (k : Fin 8) (t : Fin 1024) (e : Fin 4) (hk : kept (routeOf rt) t (4 * d.val + e.val)) (hb : t.val / 128 = (dest d k).val) (j : Fin 48)
    (hj : pos (routeOf rt) t (4 * d.val + e.val) = j.val) (h : Fin 512) :
    (sendV d rt x w (ix3 k j h) : EReal) = ∑ c : Fin 256, (x (ix2 t c) * w (ix3 e c h) : EReal) := by
  have hrank : rank (routeOf rt) t (4 * d.val + e.val) < 25 := hk.1
  obtain ⟨r, hr⟩ := fin_of (n := 32 * e.val + rank (routeOf rt) t (4 * d.val + e.val)) (by omega)
  have hre : r.val / 32 = e.val := by omega
  have hin : inSlot (routeOf rt) d.val t r := by
    unfold inSlot
    rw [hre]
    exact ⟨hk, by omega⟩
  rw [sendV_at, sum_pick (fun r' => takes (routeOf rt) d k j.val r') _ r (fun r' => ⟨?_, ?_⟩), yC_at d rt x w r h t hin e hre.symm]
  · rintro ⟨u, hu, hub, hup⟩
    have := pos_inj (routeOf rt) hu.1 hk (hub.trans hb.symm) (by omega) (hup.trans hj.symm)
    obtain ⟨rfl, he⟩ := this
    have h2 := hu.2
    rw [he] at h2
    apply Fin.ext
    omega
  · rintro rfl
    exact ⟨t, hin, hb, by rw [hre]; exact hj⟩

end Cert.KernelIdeal.Run

end
-- ==== Proof.ValD.lean ====
/-
The combine side at an index over the extended reals: for each of a device's own tokens, its expert, its position and
its expert's device, as sums over the experts; and the selection matrix they give.
-/
module

public import proofs.«01_k».proof.Proof.ValB

@[expose] public section

noncomputable section

namespace Cert.KernelIdeal.Run

open Cert.KernelIdeal Cert.KernelIdeal.Gen
open Idealize.ShloMosaic
open Idealize.ShloMosaic.TcCoe Idealize.ShloMosaic.ValueIdx Idealize.ShloMosaic.Routing
open Finset Cert.Count

variable (d : Dev nD) (rt : Vec Ideal S1024x1 .i32)

/-- Token `i` of device `d`'s own block. -/
def own (d : Dev nD) (i : Fin 128) : Fin 1024 := ⟨128 * d.val + i.val, by have : d.val < 8 := d.isLt; omega⟩

theorem own_block (i : Fin 128) : (own d i).val / 128 = d.val := by
  show (128 * d.val + i.val) / 128 = d.val
  omega

theorem hitcol_at (t : Fin 1024) (e : Fin 32) :
    re (((IntOp.cmpi .eq (broadcastTo S1024x32 (val4 (F := Ideal) rt) broadcasts_S1024x1_S1024x32 (ix2 t e))
      (broadcastTo S1024x32 val434 broadcasts_S1x32_S1024x32 (ix2 t e))).setWidth 32).toInt : ℝ) = re (ind (hit (routeOf rt) t e.val)) := by
  rw [show broadcastTo S1024x32 (val4 (F := Ideal) rt) broadcasts_S1024x1_S1024x32 (ix2 t e) = routeOf rt t from
      (at_col _ _ t e).trans (congrFun (shapeCast_self rt shapeCasts_S1024x1_S1024x1) _),
    show broadcastTo S1024x32 val434 broadcasts_S1x32_S1024x32 (ix2 t e) = BitVec.ofNat 32 e.val from (at_row _ _ t e).trans (at_io1 _ _ 0 e),
    eq_bits, real_ofBool]
  rfl

theorem rankV_at (t : Fin 1024) (e : Fin 32) : (rankV rt (ix2 t e) : EReal) = re (rank (routeOf rt) t e.val : ℝ) := by
  unfold rankV k0_pay37
  rw [shapeCast_self]
  refine (mm_re (M := 1024) (K := 1024) (N := 32) none _ _ _ zero_at t e (fun u => ind (u < t)) (fun u => ind (hit (routeOf rt) u e.val))
    (fun u => lower_at t u) (fun u => hitcol_at rt u e)).trans ?_
  simp only [ind_mul]
  rw [sum_ind]
  rfl

theorem off1 : (k0_off1 d) 0 = 128 * d.val ∧ (k0_off1 d) 1 = 0 := by revert d; decide +kernel
theorem off2 : (k0_off2 d) 0 = 128 * d.val ∧ (k0_off2 d) 1 = 0 := by revert d; decide +kernel
theorem off3 : (k0_off3 d) 0 = 128 * d.val ∧ (k0_off3 d) 1 = 0 := by revert d; decide +kernel

theorem val447_at (i : Fin 128) (e : Fin 32) : (val447 d rt (ix2 i e) : EReal) = re (rank (routeOf rt) (own d i) e.val : ℝ) := by
  refine Eq.trans (congrArg (rankV rt) ?_) (rankV_at rt (own d i) e)
  funext ax
  apply Fin.ext
  match ax with
  | ⟨0, _⟩ => show (k0_off1 d) 0 + 1 * i.val = 128 * d.val + i.val; rw [(off1 d).1]; omega
  | ⟨1, _⟩ => show (k0_off1 d) 1 + 1 * e.val = e.val; rw [(off1 d).2]; omega

theorem val449_at (i : Fin 128) : val449 d rt (ix2 i (0 : Fin 1)) = routeOf rt (own d i) := by
  refine congrArg rt ?_
  funext ax
  apply Fin.ext
  match ax with
  | ⟨0, _⟩ => show (k0_off2 d) 0 + 1 * i.val = 128 * d.val + i.val; rw [(off2 d).1]; omega
  | ⟨1, _⟩ => show (k0_off2 d) 1 + 1 * 0 = 0; rw [(off2 d).2]

theorem val524_at (e : Fin 32) : (val524 d rt (ix2 (0 : Fin 1) e) : EReal) = re (rank (routeOf rt) (first d) e.val : ℝ) := by
  refine Eq.trans (congrArg (rankV rt) ?_) (rankV_at rt (first d) e)
  funext ax
  apply Fin.ext
  match ax with
  | ⟨0, _⟩ => show (k0_off3 d) 0 + 1 * 0 = 128 * d.val; rw [(off3 d).1]; omega
  | ⟨1, _⟩ => show (k0_off3 d) 1 + 1 * e.val = e.val; rw [(off3 d).2]; omega

theorem val461_at (i : Fin 128) (e : Fin 32) : (val461 d rt (ix2 i e) : EReal) = re (ind (kept (routeOf rt) (own d i) e.val)) := by
  unfold val461 k0_pay38
  rw [at_mulf, at_sitofp, at_sitofp, at_extui, at_extui, at_cmpf, at_cmpi, at_bc, val447_at,
    show (Scalar.ofBits .f32 0x41C80000#32 : Ideal .f32) = re 25 from const25, cmp_olt, real_ofBool]
  have h1 : broadcastTo S128x32 (shapeCast S128x1 (val449 d rt) shapeCasts_S128x1_S128x1) broadcasts_S128x1_S128x32 (ix2 i e) = routeOf rt (own d i) := by
    refine (at_col _ _ i e).trans ?_
    rw [shapeCast_self]
    exact val449_at d rt i
  have h2 : broadcastTo S128x32 (iota .tc S1x32 32 [1] iota_S1x32_d1_w32) broadcasts_S1x32_S128x32 (ix2 i e) = BitVec.ofNat 32 e.val :=
    (at_row _ _ i e).trans (at_io1 _ _ 0 e)
  rw [h1, h2, eq_bits, real_ofBool, re_mul, ind_mul]
  refine congrArg re (ind_congr ?_)
  unfold kept
  exact and_congr (by exact_mod_cast Iff.rfl) Iff.rfl

/-- The kept tokens of an expert in a device's own block. -/
theorem own_card (g : Route) (e : ℕ) : (univ.filter fun i : Fin 128 => kept g (own d i) e).card = cnt g d.val e := by
  unfold cnt
  refine card_bij (fun i _ => own d i) (fun i hi => ?_) (fun i _ j _ h => ?_) (fun t ht => ?_)
  · simp only [mem_filter, mem_univ, true_and] at hi ⊢
    exact ⟨own_block d i, hi⟩
  · have : 128 * d.val + i.val = 128 * d.val + j.val := congrArg Fin.val h
    apply Fin.ext
    omega
  · simp only [mem_filter, mem_univ, true_and] at ht
    have e1 : own d ⟨t.val % 128, Nat.mod_lt _ (by decide)⟩ = t := by
      apply Fin.ext
      show 128 * d.val + t.val % 128 = t.val
      omega
    refine ⟨⟨t.val % 128, Nat.mod_lt _ (by decide)⟩, ?_, e1⟩
    simp only [mem_filter, mem_univ, true_and]
    rw [e1]
    exact ht.2

theorem val464_at (e : Fin 32) : (val464 d rt (ix2 (0 : Fin 1) e) : EReal) = re (cnt (routeOf rt) d.val e.val : ℝ) := by
  unfold val464 k0_pay39
  refine (mm_re (M := 1) (K := 128) (N := 32) none _ _ _ zero_at 0 e (fun _ => 1) (fun i => ind (kept (routeOf rt) (own d i) e.val))
    (fun i => Ideal.ofBits_one_bf16) (fun i => val461_at d rt i e)).trans ?_
  simp only [one_mul]
  rw [sum_ind, own_card]

/-- Experts of one group, the first before the second. -/
theorem group_at (g s q g' s' q' : IVec S32x32 32) (a b : Fin 32)
    (hg : ∀ i, g i = (IntOp.cmpi .sgt (val465 i) 0#32).setWidth 32 - (IntOp.cmpi .slt (val465 i) 0#32).setWidth 32) (hs : ∀ i, s i = 1#32)
    (hq : q = divsi val465 (broadcast S32x32 4#32))
    (hg' : ∀ i, g' i = (IntOp.cmpi .sgt (val466 i) 0#32).setWidth 32 - (IntOp.cmpi .slt (val466 i) 0#32).setWidth 32) (hs' : ∀ i, s' i = 1#32)
    (hq' : q' = divsi val466 (broadcast S32x32 4#32)) :
    ((sitofp .f32 (extui 32 (andi (cmpi .eq
        (select (andi (cmpi .ne g s) (cmpi .ne (remsi val465 (broadcast S32x32 4#32)) (broadcast S32x32 0#32))) (subi q (broadcast S32x32 1#32)) q)
        (select (andi (cmpi .ne g' s') (cmpi .ne (remsi val466 (broadcast S32x32 4#32)) (broadcast S32x32 0#32))) (subi q' (broadcast S32x32 1#32)) q'))
      (cmpi .slt val465 val466)) natLt_1_32) : FVec Ideal S32x32 .f32) (ix2 a b) : EReal) = re (ind (a.val / 4 = b.val / 4 ∧ a.val < b.val)) := by
  subst hq hq'
  have h0 : val465 (ix2 a b) = BitVec.ofNat 32 a.val := at_io0 _ _ a b
  have h1 : val466 (ix2 a b) = BitVec.ofNat 32 b.val := at_io1 _ _ a b
  rw [at_sitofp, at_extui, at_andi, at_cmpi, at_cmpi, h0, h1]
  have f0 := at_floor val465 (ix2 a b) (n := a.val) (b := 4) h0 (by omega) (by decide) (by decide) g s (hg _) (hs _)
  have f1 := at_floor val466 (ix2 a b) (n := b.val) (b := 4) h1 (by omega) (by decide) (by decide) g' s' (hg' _) (hs' _)
  refine (congrArg₂ (fun p q : BitVec 32 => re (((IntOp.cmpi .eq p q &&& IntOp.cmpi .slt (BitVec.ofNat 32 a.val) (BitVec.ofNat 32 b.val)).setWidth 32).toInt : ℝ))
    f0 f1).trans ?_
  rw [eq_word (by omega) (by omega), slt_word (by omega) (by omega), and_bits, real_ofBool]

theorem val522_at (e : Fin 32) : (val522 d rt (ix2 (0 : Fin 1) e) : EReal) = re (pre (routeOf rt) d.val e.val : ℝ) := by
  unfold val522 k0_pay42
  refine (mm_re (M := 1) (K := 32) (N := 32) none _ _ _ zero_at 0 e (fun j => (cnt (routeOf rt) d.val j.val : ℝ))
    (fun j => ind (j.val / 4 = e.val / 4 ∧ j.val < e.val)) (fun j => val464_at d rt j)
    (fun j => group_at _ _ _ _ _ _ j e (fun _ => rfl) (fun _ => rfl) rfl (fun _ => rfl) (fun _ => rfl) rfl)).trans ?_
  rw [pre_all _ _ _ e.isLt, Nat.cast_sum]
  refine congrArg re (Finset.sum_congr rfl fun j _ => ?_)
  by_cases h : j.val / 4 = e.val / 4 ∧ j.val < e.val <;> simp [h]

theorem val526_at (e : Fin 32) : (val526 d rt (ix2 (0 : Fin 1) e) : EReal) = re (min (rank (routeOf rt) (first d) e.val : ℝ) 25) := by
  unfold val526 k0_pay43
  rw [at_minf, at_bc, val524_at, show (Scalar.ofBits .f32 0x41C80000#32 : Ideal .f32) = re 25 from const25, re_min]

/-- A table over the experts summed over its expert axis. -/
theorem rowsum_at (a : FVec Ideal S128x32 .bf16) (i : Fin 128) (f : Fin 32 → ℝ) (ha : ∀ e, (a (ix2 i e) : EReal) = re (f e)) :
    (FloatOps.matmul dot_S128x32_S32x1_S128x1_1_0_0_1_n_n none a (k0_pay44 (F := Ideal) val257) (constant S128x1 .f32 0x00000000#32) (ix2 i (0 : Fin 1)) : EReal)
      = re (∑ e : Fin 32, f e) := by
  refine (mm_re (M := 128) (K := 32) (N := 1) none _ _ _ zero_at i 0 f (fun _ => 1) ha (fun _ => Ideal.ofBits_one_bf16)).trans ?_
  simp only [mul_one]

/-- The position of an own token at expert `e`, as printed. -/
def posR (g : Route) (d : Dev nD) (i : Fin 128) (e : ℕ) : ℝ :=
  (rank g (own d i) e : ℝ) + (pre g d.val e : ℝ) - min (rank g (first d) e : ℝ) 25

theorem val534_at (i : Fin 128) : (val534 d rt (ix2 i (0 : Fin 1)) : EReal)
    = re (∑ e : Fin 32, ind (kept (routeOf rt) (own d i) e.val) * posR (routeOf rt) d i e.val) := by
  unfold val534 k0_pay45
  refine rowsum_at _ i _ fun e => ?_
  rw [at_truncf, at_mulf, at_subf, at_addf, val461_at, val447_at,
    show broadcastTo S128x32 (val522 d rt) broadcasts_S1x32_S128x32 (ix2 i e) = _ from (at_row _ _ i e).trans (val522_at d rt e),
    show broadcastTo S128x32 (val526 d rt) broadcasts_S1x32_S128x32 (ix2 i e) = _ from (at_row _ _ i e).trans (val526_at d rt e), re_add, re_sub, re_mul]
  rfl

theorem val564_at (i : Fin 128) : (val564 d rt (ix2 i (0 : Fin 1)) : EReal)
    = re (∑ e : Fin 32, ind (kept (routeOf rt) (own d i) e.val) * ((e.val / 4 : ℕ) : ℝ)) := by
  unfold val564 k0_pay46
  refine rowsum_at _ i _ fun e => ?_
  rw [at_truncf, at_mulf, val461_at, ← re_mul]
  refine congrArg (fun z : EReal => _ * z) ?_
  refine (at_row _ _ i e).trans ?_
  rw [at_sitofp]
  refine Eq.trans (congrArg (fun z : BitVec 32 => re (z.toInt : ℝ)) (at_floor (s := S1x32) _ (ix2 (0 : Fin 1) e) (n := e.val) (b := 4) (at_io1 _ _ 0 e) (by omega) (by decide) (by decide) _ _ rfl rfl)) ?_
  exact real_word (by omega)

theorem val566_at (i : Fin 128) : (val566 d rt (ix2 i (0 : Fin 1)) : EReal) = re (∑ e : Fin 32, ind (kept (routeOf rt) (own d i) e.val)) := by
  unfold val566 k0_pay47
  refine rowsum_at _ i _ fun e => ?_
  rw [at_truncf, val461_at]

/-- The device the column's slot block comes from. -/
theorem from_word {a q : ℕ} (ha : a < 8) (hq : q < 8) :
    IntOp.remsi .vector (BitVec.ofNat 32 a - BitVec.ofNat 32 q + BitVec.ofNat 32 8) (BitVec.ofNat 32 8) = BitVec.ofNat 32 ((a + 8 - q) % 8) := by
  have h : BitVec.ofNat 32 a - BitVec.ofNat 32 q + BitVec.ofNat 32 8 = BitVec.ofNat 32 (a + 8 - q) := by
    apply BitVec.eq_of_toNat_eq
    simp only [BitVec.toNat_add, BitVec.toNat_sub, BitVec.toNat_ofNat]
    omega
  rw [h, remsi_word _ (by omega) (by decide) (by decide)]

/-- The columns' quotient by 48. -/
theorem colblock_at (i : Fin 128) (p : Fin 384) (g s : IVec S128x384 32)
    (hg : ∀ i, g i = (IntOp.cmpi .sgt (val567 i) 0#32).setWidth 32 - (IntOp.cmpi .slt (val567 i) 0#32).setWidth 32) (hs : ∀ i, s i = 1#32) :
    remsi (addi (subi (broadcast S128x384 (val2 d))
      (select (andi (cmpi .ne g s) (cmpi .ne (remsi val567 (broadcast S128x384 48#32)) (broadcast S128x384 0#32)))
        (subi k0_pay48 (broadcast S128x384 1#32)) k0_pay48)) (broadcast S128x384 8#32)) (broadcast S128x384 8#32) (ix2 i p)
      = BitVec.ofNat 32 ((d.val + 8 - p.val / 48) % 8) := by
  have h := at_floor val567 (ix2 i p) (n := p.val) (b := 48) (at_io1 _ _ i p) (by omega) (by decide) (by decide) g s (hg _) (hs _)
  refine (congrArg (fun z : BitVec 32 => IntOp.remsi .vector (val2 d - z + BitVec.ofNat 32 8) (BitVec.ofNat 32 8)) h).trans ?_
  rw [val2_eq]
  exact from_word d.isLt (by omega)

theorem colrow_at (i : Fin 128) (p : Fin 384) : remsi val567 (broadcast S128x384 48#32) (ix2 i p) = BitVec.ofNat 32 (p.val % 48) := by
  have h : val567 (ix2 i p) = BitVec.ofNat 32 p.val := at_io1 _ _ i p
  refine (congrArg (fun z : BitVec 32 => IntOp.remsi .vector z (BitVec.ofNat 32 48)) h).trans ?_
  exact remsi_word _ (by omega) (by decide) (by decide)

theorem pick3_at (u v : IVec S128x384 32) (a b c : FVec Ideal S128x1 .f32) (i : Fin 128) (p : Fin 384) (n k : ℕ) (hn : n < 2 ^ 31) (hk : k < 2 ^ 31)
    (x y z : ℝ) (hu : u (ix2 i p) = BitVec.ofNat 32 n) (hv : v (ix2 i p) = BitVec.ofNat 32 k) (ha : (a (ix2 i (0 : Fin 1)) : EReal) = re x)
    (hb : (b (ix2 i (0 : Fin 1)) : EReal) = re y) (hc : (c (ix2 i (0 : Fin 1)) : EReal) = re z) :
    ((truncf .bf16 (mulf (mulf
        (sitofp .f32 (extui 32 (cmpf .oeq (sitofp .f32 u : FVec Ideal S128x384 .f32) (broadcastTo S128x384 a broadcasts_S128x1_S128x384)) natLt_1_32))
        (sitofp .f32 (extui 32 (cmpf .oeq (sitofp .f32 v : FVec Ideal S128x384 .f32) (broadcastTo S128x384 b broadcasts_S128x1_S128x384)) natLt_1_32)))
      (broadcastTo S128x384 c broadcasts_S128x1_S128x384)) bitsLt_bf16_f32 : FVec Ideal S128x384 .bf16) (ix2 i p) : EReal)
      = re (ind ((n : ℝ) = x ∧ (k : ℝ) = y) * z) := by
  have ea : broadcastTo S128x384 a broadcasts_S128x1_S128x384 (ix2 i p) = re x := (at_col _ _ i p).trans ha
  have eb : broadcastTo S128x384 b broadcasts_S128x1_S128x384 (ix2 i p) = re y := (at_col _ _ i p).trans hb
  have ec : broadcastTo S128x384 c broadcasts_S128x1_S128x384 (ix2 i p) = re z := (at_col _ _ i p).trans hc
  rw [at_truncf, at_mulf, at_mulf, at_sitofp, at_sitofp, at_extui, at_extui, at_cmpf, at_cmpf, at_sitofp, at_sitofp, ea, eb, ec, hu, hv,
    real_word hn, real_word hk, cmp_oeq, cmp_oeq, real_ofBool, real_ofBool, re_mul, re_mul, ind_mul]

theorem pickV_at (i : Fin 128) (p : Fin 384) (x y z : ℝ) (ha : (val534 d rt (ix2 i (0 : Fin 1)) : EReal) = re x)
    (hb : (val564 d rt (ix2 i (0 : Fin 1)) : EReal) = re y) (hc : (val566 d rt (ix2 i (0 : Fin 1)) : EReal) = re z) :
    (pickV d rt (ix2 i p) : EReal) = re (ind (((p.val % 48 : ℕ) : ℝ) = x ∧ (((d.val + 8 - p.val / 48) % 8 : ℕ) : ℝ) = y) * z) := by
  unfold pickV k0_pay51
  exact pick3_at _ _ _ _ _ i p (p.val % 48) ((d.val + 8 - p.val / 48) % 8) (by omega) (by omega) x y z (colrow_at i p)
    (colblock_at d i p _ _ (fun _ => rfl) (fun _ => rfl)) ha hb hc

/-- No column is selected for a token no expert keeps. -/
theorem pickV_none (i : Fin 128) (h : ∀ e : Fin 32, ¬ kept (routeOf rt) (own d i) e.val) (p : Fin 384) : (pickV d rt (ix2 i p) : EReal) = 0 := by
  rw [pickV_at d rt i p _ _ _ (val534_at d rt i) (val564_at d rt i) (val566_at d rt i)]
  have : ∑ e : Fin 32, ind (kept (routeOf rt) (own d i) e.val) = 0 := Finset.sum_eq_zero fun e _ => by simp [ind, h e]
  rw [this, mul_zero]
  exact EReal.coe_zero

/-- The one column selected for a token that expert `e` keeps. -/
theorem pickV_some (i : Fin 128) (e : Fin 32) (h : kept (routeOf rt) (own d i) e.val) (p : Fin 384) :
    (pickV d rt (ix2 i p) : EReal) = re (ind (p.val % 48 = pos (routeOf rt) (own d i) e.val ∧ (d.val + 8 - p.val / 48) % 8 = e.val / 4)) := by
  have hu : ∀ e' : Fin 32, kept (routeOf rt) (own d i) e'.val ↔ e' = e := fun e' =>
    ⟨fun h' => Fin.ext (hit_inj (routeOf rt) e'.isLt e.isLt h'.2 h.2), fun h' => h' ▸ h⟩
  have hx : ∑ e' : Fin 32, ind (kept (routeOf rt) (own d i) e'.val) * posR (routeOf rt) d i e'.val = ((pos (routeOf rt) (own d i) e.val : ℕ) : ℝ) := by
    rw [pick_re (fun e' : Fin 32 => kept (routeOf rt) (own d i) e'.val) (fun e' => posR (routeOf rt) d i e'.val) e hu]
    have hs := rank_split (routeOf rt) h.1 d (own_block d i)
    have hlt := h.1
    have hcap : (rank (routeOf rt) (first d) e.val : ℝ) ≤ 25 := by
      have : rank (routeOf rt) (first d) e.val ≤ 25 := by omega
      exact_mod_cast this
    unfold posR pos
    rw [min_eq_left hcap, hs, own_block]
    push_cast
    ring
  have hy : ∑ e' : Fin 32, ind (kept (routeOf rt) (own d i) e'.val) * ((e'.val / 4 : ℕ) : ℝ) = ((e.val / 4 : ℕ) : ℝ) :=
    pick_re (fun e' : Fin 32 => kept (routeOf rt) (own d i) e'.val) (fun e' => ((e'.val / 4 : ℕ) : ℝ)) e hu
  have hz : ∑ e' : Fin 32, ind (kept (routeOf rt) (own d i) e'.val) = 1 := by
    simpa using pick_re (fun e' : Fin 32 => kept (routeOf rt) (own d i) e'.val) (fun _ => 1) e hu
  rw [pickV_at d rt i p _ _ _ ((val534_at d rt i).trans (congrArg re hx)) ((val564_at d rt i).trans (congrArg re hy)) ((val566_at d rt i).trans (congrArg re hz)),
    mul_one]
  exact congrArg re (ind_congr (and_congr Nat.cast_inj Nat.cast_inj))

end Cert.KernelIdeal.Run

end
-- ==== Proof.ValE.lean ====
/-
A device's output at an index over the extended reals: the kept token's row times its expert's matrix, and zero for a
token no expert keeps.
-/
module

public import proofs.«01_k».proof.Proof.ValC
public import proofs.«01_k».proof.Proof.ValD
public import proofs.«01_k».proof.Proof.Data

@[expose] public section

noncomputable section

namespace Cert.KernelIdeal.Run

open Cert.KernelIdeal Cert.KernelIdeal.Gen
open Idealize.ShloMosaic hiding ix0 ix1 ix2 ix3
open Idealize.ShloMosaic.TcCoe Idealize.ShloMosaic.ValueIdx Idealize.ShloMosaic.Routing
open Finset Cert.Count

/-- The output row: the selected rows of the receive buffer. -/
theorem combine_at (P : FVec Ideal S128x384 .bf16) (V : Vec Ideal S8x48x512 .bf16) (i : Fin 128) (h : Fin 512) :
    (k0_pay52 P V (ix2 i h) : EReal)
      = ∑ p : Fin 384, (P (ix2 i p) * V (ix3 (⟨p.val / 48, by omega⟩ : Fin 8) (⟨p.val % 48, Nat.mod_lt _ (by decide)⟩ : Fin 48) h) : EReal) := by
  unfold k0_pay52
  refine (at_mm (M := 128) (K := 384) (N := 512) none _ _ _ zero_at i h).trans (Finset.sum_congr rfl fun p _ => congrArg (fun z : EReal => _ * z) ?_)
  exact shapeCast_apply V shapeCasts_S8x48x512_S384x512 _ _ (by
    rw [Shape.rowMajor_val_three, Shape.rowMajor_val_two]
    show (p.val / 48 * 48 + p.val % 48) * 512 + h.val = p.val * 512 + h.val
    omega)

variable (m : (ℓ : Loc nD τ sig) → Buf (Elt Ideal) ℓ) (c : Dev nD)

theorem out_dropped (i : Fin 128) (h : Fin 512) (hn : ∀ e : Fin 32, ¬ kept (routeOf (rtAt m c)) (own c i) e.val) : (outAt m c (ix2 i h) : EReal) = 0 := by
  unfold outAt
  rw [combine_at]
  refine Finset.sum_eq_zero fun p _ => ?_
  rw [pickV_none c (rtAt m c) i hn p]
  exact zero_mul _

theorem src_group (k : Fin 8) (q : Fin 8) (hk : (c.val + 8 - k.val) % 8 = q.val) : src c k = q ∧ dest q k = c := by
  revert hk; revert c k q; decide +kernel

theorem out_kept (rt : Vec Ideal S1024x1 .i32) (x : Vec Ideal S1024x256 .f32) (hrt : ∀ c, rtAt m c = rt) (hx : ∀ c, xAt m c = x)
    (i : Fin 128) (h : Fin 512) (q : Fin 8) (l : Fin 4) (hk : kept (routeOf rt) (own c i) (4 * q.val + l.val))
    (hfit : ∑ j ∈ range 4, cnt (routeOf rt) c.val (4 * q.val + j) ≤ 48) :
    (outAt m c (ix2 i h) : EReal) = ∑ k : Fin 256, (x (ix2 (own c i) k) * wAt m q (ix3 l k h) : EReal) := by
  have hpos : pos (routeOf rt) (own c i) (4 * q.val + l.val) < 48 := by
    have := pos_lt (routeOf rt) hk
    rw [show 4 * ((4 * q.val + l.val) / 4) = 4 * q.val by omega, own_block] at this
    omega
  obtain ⟨j, hj⟩ : ∃ j : Fin 48, pos (routeOf rt) (own c i) (4 * q.val + l.val) = j.val := ⟨⟨_, hpos⟩, rfl⟩
  have hc : c.val < 8 := c.isLt
  obtain ⟨k, hkq⟩ : ∃ k : Fin 8, k.val = (c.val + 8 - q.val) % 8 := ⟨⟨_, Nat.mod_lt _ (by decide)⟩, rfl⟩
  obtain ⟨p, hp⟩ : ∃ p : Fin 384, p.val = 48 * k.val + j.val := ⟨⟨48 * k.val + j.val, by omega⟩, rfl⟩
  obtain ⟨hs, hd⟩ := src_group c k q (by omega)
  unfold outAt
  rw [combine_at, hrt]
  have hsel : ∀ p' : Fin 384, (p'.val % 48 = pos (routeOf rt) (own c i) (4 * q.val + l.val) ∧ (c.val + 8 - p'.val / 48) % 8 = (4 * q.val + l.val) / 4) ↔ p' = p := by
    intro p'
    rw [hj, Fin.ext_iff]
    constructor
    · rintro ⟨h1, h2⟩; omega
    · intro h1; constructor <;> omega
  have hpick : ∀ p' : Fin 384, (pickV c rt (ix2 i p') : EReal) = _ := fun p' =>
    pickV_some c rt i (⟨4 * q.val + l.val, by omega⟩ : Fin 32) hk p'
  refine (Finset.sum_congr rfl fun p' _ => congrArg (fun z : EReal => z * _) (hpick p')).trans ?_
  refine (sum_pick _ _ p hsel).trans ?_
  have hi : (ix3 (⟨p.val / 48, by omega⟩ : Fin 8) (⟨p.val % 48, Nat.mod_lt _ (by decide)⟩ : Fin 48) h : S8x48x512.Idx) = ix3 k j h := by
    have h1 : (⟨p.val / 48, by omega⟩ : Fin 8) = k := Fin.ext (by show p.val / 48 = k.val; omega)
    have h2 : (⟨p.val % 48, Nat.mod_lt _ (by decide)⟩ : Fin 48) = j := Fin.ext (by show p.val % 48 = j.val; omega)
    rw [h1, h2]
  rw [hi]
  have hl : landed (sent m) c (ix3 k j h) = sent m q (ix3 k j h) := congrArg (fun z => sent m z (ix3 k j h)) hs
  rw [hl]
  unfold sent
  rw [hrt, hx]
  exact sendV_row q rt x (wAt m q) k (own c i) l hk (by rw [hd, own_block]) j hj h

end Cert.KernelIdeal.Run

end
-- ==== Proof.Final.lean ====
/-
What a device's output array ends with, and its operands as the program's arguments.
-/
module

public import proofs.«01_k».proof.Proof.Launch
public import Idealize.ShloMosaic.Lib.Pipeline.ValueKit

@[expose] public section

noncomputable section

namespace Cert.KernelIdeal.Run

open Cert.KernelIdeal Cert.KernelIdeal.Gen
open Idealize.ShloMosaic Idealize.ShloMosaic.TcCoe
open Idealize.ShloMosaic.Pipeline (Dat Cfg Window BodyObligation cellOf)

variable {F : FTy → Type} [FloatOps F]
variable (m : (ℓ : Loc nD τ sig) → Buf (Elt F) ℓ) (ρ : Dev nD → PrngReg) (c : Dev nD)

theorem xAt_eq : xAt m c = m ((c : Thread nD τ).loc main_arg0) := by
  unfold xAt
  funext i
  refine congrArg (m ((c : Thread nD τ).loc main_arg0)) ?_
  funext ax
  apply Fin.ext
  match ax with
  | ⟨0, _⟩ => show 0 + 1 * (i 0).val = (i 0).val; omega
  | ⟨1, _⟩ => show 0 + 1 * (i 1).val = (i 1).val; omega

theorem rtAt_eq : rtAt m c = m ((c : Thread nD τ).loc main_arg2) := by
  unfold rtAt
  funext i
  refine congrArg (m ((c : Thread nD τ).loc main_arg2)) ?_
  funext ax
  apply Fin.ext
  match ax with
  | ⟨0, _⟩ => show 0 + 1 * (i 0).val = (i 0).val; omega
  | ⟨1, _⟩ => show 0 + 1 * (i 1).val = (i 1).val; omega

theorem wAt_eq : wAt m c = m ((c : Thread nD τ).loc main_arg3) := by
  unfold wAt
  funext i
  refine congrArg (m ((c : Thread nD τ).loc main_arg3)) ?_
  funext ax
  apply Fin.ext
  match ax with
  | ⟨0, _⟩ => show 0 + 1 * (i 0).val = (i 0).val; omega
  | ⟨1, _⟩ => show 0 + 1 * (i 1).val = (i 1).val; omega
  | ⟨2, _⟩ => show 0 + 1 * (i 2).val = (i 2).val; omega

theorem final_out : finalA m ρ c (3 : Fin 4) = outAt m c :=
  (dats m ρ 0 c).arrAt_eq_of_after_last (3 : Fin 4) t₀ (by decide +kernel) _ fun j => rfl

end Cert.KernelIdeal.Run

end
-- ==== Proof.Mask.lean ====
/-
Which tokens an expert keeps, as the reference computes it: the running count of each expert's tokens, and the bit
that marks the first twenty-five.
-/
module

public import proofs.«01_k».proof.Proof.Reads
public import proofs.«01_k».proof.Proof.Count
public import Idealize.ShloMosaic.Lib.Routing.OpsOne

@[expose] public section

noncomputable section

namespace Cert.Mask

open Idealize.ShloMosaic
open Idealize.ShloMosaic.ValueIdx Idealize.ShloMosaic.Routing
open Finset Cert.Count Cert.KernelIdeal.Run

variable (g : Route)

/-- One where token `i` hits expert `e`. -/
def mark (i e : ℕ) : ℕ := if h : i < 1024 then (if hit g ⟨i, h⟩ e then 1 else 0) else 0

theorem mark_at (t : Fin 1024) (e : ℕ) : mark g t.val e = if hit g t e then 1 else 0 := dif_pos t.isLt

theorem sum_range_list (f : ℕ → ℕ) (n : ℕ) : ((List.range n).map f).sum = ∑ i ∈ range n, f i := by
  induction n with
  | zero => rfl
  | succ n ih => rw [List.range_succ, List.map_append, List.sum_append, ih, Finset.sum_range_succ, List.map_singleton, List.sum_singleton]

theorem rank_sum (t : Fin 1024) (e : ℕ) : ∑ i ∈ range t.val, mark g i e = rank g t e := by
  unfold rank
  rw [Finset.card_filter]
  have h1 : ∀ u : Fin 1024, (if u < t ∧ hit g u e then 1 else 0) = (fun n : ℕ => if n < t.val then mark g n e else 0) u.val := by
    intro u
    show _ = if u.val < t.val then mark g u.val e else 0
    rw [mark_at]
    by_cases h : u.val < t.val
    · rw [if_pos h]; exact if_congr (by rw [Fin.lt_def]; simp [h]) rfl rfl
    · rw [if_neg h, if_neg]; rintro ⟨h', _⟩; exact h h'
  rw [Finset.sum_congr rfl fun u _ => h1 u, Fin.sum_univ_eq_sum_range (fun n : ℕ => if n < t.val then mark g n e else 0) 1024, ← Finset.sum_filter]
  refine Finset.sum_congr (Finset.ext fun n => ?_) fun _ _ => rfl
  have := t.isLt
  simp only [Finset.mem_range, Finset.mem_filter]
  omega

theorem mark_word (t : Fin 1024) (e : ℕ) : (BitVec.ofBool (decide (hit g t e))).setWidth 32 = BitVec.ofNat 32 (mark g t.val e) := by
  rw [mark_at]
  by_cases h : hit g t e <;> simp [h]

theorem rank_le (t : Fin 1024) (e : ℕ) : rank g t e ≤ 1024 := (Finset.card_le_univ _).trans (by simp)

/-- The bit of a kept token. -/
theorem kept_bit (oh : IVec (shape2 1024 32) 32) (hoh : ∀ t e, oh (ix2 t e) = (BitVec.ofBool (decide (hit g t e.val))).setWidth 32)
    (init : IVec shape0 32) (hinit : init ix0 = 0#32) (lo hi : IVec (shape2 1024 32) 32) (hlo : ∀ i, lo i = 0#32) (hhi : ∀ i, hi i = 25#32)
    (h : (shape2 1024 32).ReduceWindows (![1024, 1] : Fin 2 → Nat) ![1, 1] ![1023, 0] ![0, 0] (shape2 1024 32)) (hu : 0 < shape0.numel)
    (t : Fin 1024) (e : Fin 32) :
    andi (cmpi .sgt oh lo) (cmpi .slt (subi (Host.reduceWindow IntOp.addi ![1024, 1] ![1, 1] ![1023, 0] ![0, 0] oh init h hu) oh) hi) (ix2 t e)
      = BitVec.ofBool (decide (kept g t e.val)) := by
  have hoh' : ∀ (t : Fin 1024) (e : Fin 32), oh (ix2 t e) = BitVec.ofNat 32 (mark g t.val e.val) := fun t e => (hoh t e).trans (mark_word g t e.val)
  rw [at_andi, at_cmpi, at_cmpi, at_subi, hlo, hhi, cumsum_rows (by rfl) oh (mark g) hoh' init hinit h hu t e, hoh' t e, sum_range_list,
    Finset.sum_range_succ, rank_sum]
  have hb : mark g t.val e.val ≤ 1 := by rw [mark_at]; split <;> omega
  have hr := rank_le g t e.val
  rw [show BitVec.ofNat 32 (rank g t e.val + mark g t.val e.val) - BitVec.ofNat 32 (mark g t.val e.val) = BitVec.ofNat 32 (rank g t e.val) by
    rw [BitVec.ofNat_add, BitVec.add_sub_cancel]]
  rw [show IntOp.cmpi .slt (BitVec.ofNat 32 (rank g t e.val)) 25#32 = BitVec.ofBool (decide (rank g t e.val < 25)) from slt_word (by omega) (by decide)]
  rw [show IntOp.cmpi .sgt (BitVec.ofNat 32 (mark g t.val e.val)) 0#32 = BitVec.ofBool (decide (0 < mark g t.val e.val)) from slt_word (a := 0) (by decide) (by omega)]
  rw [and_bits]
  refine congrArg BitVec.ofBool (decide_eq_decide.2 ?_)
  unfold kept
  rw [mark_at]
  by_cases hh : hit g t e.val <;> simp [hh]

end Cert.Mask

end
-- ==== Proof.RefAt.lean ====
/-
The reference's result at an index over the extended reals: each expert's product for the tokens that it keeps, summed.
-/
module

public import proofs.«01_k».proof.Proof.Mask
public import proofs.«01_k».proof.Proof.Gen.ReferenceIdeal
public import Idealize.ShloMosaic.Lib.Pointwise.Contract
public import Idealize.ShloMosaic.Lib.Pointwise.Reduce

@[expose] public section

noncomputable section

namespace Cert.RefAt

open Cert.ReferenceIdeal Cert.ReferenceIdeal.Gen
open Idealize.ShloMosaic hiding ix0 ix1 ix2 ix3
open Idealize.ShloMosaic.ValueIdx Idealize.ShloMosaic.Routing
open Finset Cert.Count Cert.KernelIdeal.Run Cert.Mask

variable (x : FVec Ideal S1024x256 .f32) (rt : IVec S1024x1 32) (w : FVec Ideal S32x256x512 .f32)

/-- One at the expert of each token. -/
def oneHot : IVec S1024x32 32 := extui 32 (cmpi .eq (broadcastInDim S1024x32 ![0, 1] bcast_S1024x1_S1024x32_0_1 rt) (broadcastInDim S1024x32 ![0, 1] bcast_S1x32_S1024x32_0_1 (broadcastInDim S1x32 ![1] bcast_S32_S1x32_1 (iotaInDim S32 32 0)))) natLt_1_32

/-- The tokens each expert keeps. -/
def keptMask : IVec S1024x32 1 := andi (cmpi .sgt (oneHot rt) (broadcastInDim S1024x32 ![] bcast_S_S1024x32 (constantI S_ 32 0#32))) (cmpi .slt (subi (Host.reduceWindow IntOp.addi ![1024, 1] ![1, 1] ![1023, 0] ![0, 0] (oneHot rt) (broadcastInDim S_ ![] bcast_S_S_ (constantI S_ 32 0#32)) reduceWindows_S1024x32_S1024x32_w1024s1p1023_0_w1s1p0_0 h_S_) (oneHot rt)) (broadcastInDim S1024x32 ![] bcast_S_S1024x32 (constantI S_ 32 25#32)))

/-- Each expert's product for every token. -/
def rows : FVec Ideal S32x1024x512 .f32 := transpose S32x1024x512 [0, 2, 1] (Host.dotGeneral dot_S32x256x512_S1024x256_S32x512x1024_1_1_02_0_n_n none w x) transposes_S32x512x1024_S32x1024x512_0_2_1

/-- The reference's result. -/
def refOut : FVec Ideal S1024x512 .f32 := Host.reduceAdd (select (broadcastInDim S32x1024x512 ![0, 1, 2] bcast_S32x1024x1_S32x1024x512_0_1_2 (broadcastInDim S32x1024x1 ![0, 1] bcast_S32x1024_S32x1024x1_0_1 (transpose S32x1024 [1, 0] (keptMask rt) transposes_S1024x32_S32x1024_1_0))) (rows x w) (broadcastInDim S32x1024x512 ![] bcast_S_S32x1024x512 (id (constant S_ .f32 0x00000000#32)))) (constant S_ .f32 0x00000000#32) reducesTo_S32x1024x512_S1024x512_d0 h_S_

theorem oneHot_at (t : Fin 1024) (e : Fin 32) :
    oneHot rt (ix2 t e) = (BitVec.ofBool (decide (hit (fun t => rt (ix2 t (0 : Fin 1))) t e.val))).setWidth 32 := by
  unfold oneHot
  rw [at_extui, at_cmpi, eq_bits]
  have ha : broadcastInDim S1024x32 ![0, 1] bcast_S1024x1_S1024x32_0_1 rt (ix2 t e) = rt (ix2 t (0 : Fin 1)) := by
    refine broadcastInDim_apply _ _ rt _ _ fun a => ?_
    match a with
    | ⟨0, _⟩ => rfl
    | ⟨1, _⟩ => rfl
  have hb : broadcastInDim S1024x32 ![0, 1] bcast_S1x32_S1024x32_0_1 (broadcastInDim S1x32 ![1] bcast_S32_S1x32_1 (iotaInDim S32 32 0)) (ix2 t e) = BitVec.ofNat 32 e.val := rfl
  rw [ha, hb]
  rfl

theorem keptMask_at (t : Fin 1024) (e : Fin 32) : keptMask rt (ix2 t e) = BitVec.ofBool (decide (kept (fun t => rt (ix2 t (0 : Fin 1))) t e.val)) :=
  kept_bit _ (oneHot rt) (oneHot_at rt) _ rfl _ _ (fun _ => rfl) (fun _ => rfl) _ _ t e

theorem dot_at (e : Fin 32) (h : Fin 512) (t : Fin 1024) :
    ((Host.dotGeneral (F := Ideal) dot_S32x256x512_S1024x256_S32x512x1024_1_1_02_0_n_n none w x : FVec Ideal S32x512x1024 .f32) (ix3 e h t) : EReal)
      = ∑ c : Fin 256, (w (ix3 e c h) * x (ix2 t c) : EReal) := by
  unfold Host.dotGeneral
  rw [Ideal.dotGeneral_def]
  refine (Ideal.matmul_apply₁_of dot_S32x256x512_S1024x256_S32x512x1024_1_1_02_0_n_n (a := 1) rfl (K := 256) rfl w x _ (ix3 e h t)
    (fun c => ix3 e c h) (fun c => ix2 t c) (fun c => ?_) (fun c => ?_)).trans ?_
  · funext ax
    match ax with
    | ⟨0, _⟩ => rfl
    | ⟨1, _⟩ => rfl
    | ⟨2, _⟩ => rfl
  · funext ax
    match ax with
    | ⟨0, _⟩ => rfl
    | ⟨1, _⟩ => rfl
  · exact zero_add _

theorem rows_at (e : Fin 32) (t : Fin 1024) (h : Fin 512) : (rows x w (ix3 e t h) : EReal) = ∑ c : Fin 256, (w (ix3 e c h) * x (ix2 t c) : EReal) := by
  unfold rows
  refine (transpose_apply _ _ _ _ (ix3 e h t) fun b => ?_).trans (dot_at x w e h t)
  match b with
  | ⟨0, _⟩ => rfl
  | ⟨1, _⟩ => rfl
  | ⟨2, _⟩ => rfl

theorem mask_at (e : Fin 32) (t : Fin 1024) (h : Fin 512) :
    broadcastInDim S32x1024x512 ![0, 1, 2] bcast_S32x1024x1_S32x1024x512_0_1_2 (broadcastInDim S32x1024x1 ![0, 1] bcast_S32x1024_S32x1024x1_0_1
      (transpose S32x1024 [1, 0] (keptMask rt) transposes_S1024x32_S32x1024_1_0)) (ix3 e t h) = keptMask rt (ix2 t e) := by
  refine (broadcastInDim_apply _ _ _ _ (ix3 e t (0 : Fin 1)) fun a => ?_).trans ((broadcastInDim_apply _ _ _ _ (ix2 e t) fun a => ?_).trans
    (transpose_apply _ _ _ _ (ix2 t e) fun b => ?_))
  · match a with
    | ⟨0, _⟩ => rfl
    | ⟨1, _⟩ => rfl
    | ⟨2, _⟩ => rfl
  · match a with
    | ⟨0, _⟩ => rfl
    | ⟨1, _⟩ => rfl
  · match b with
    | ⟨0, _⟩ => rfl
    | ⟨1, _⟩ => rfl

theorem refOut_at (t : Fin 1024) (h : Fin 512) :
    (refOut x rt w (ix2 t h) : EReal)
      = ∑ e : Fin 32, if kept (fun t => rt (ix2 t (0 : Fin 1))) t e.val then ∑ c : Fin 256, (w (ix3 e c h) * x (ix2 t c) : EReal) else 0 := by
  unfold refOut
  rw [Host.reduceAdd_apply]
  refine (Ideal.hostReduceAdd_r3_a0 _ _ _ _).trans ?_
  refine (congrArg₂ (· + ·) (show _ = (0 : EReal) from Ideal.ofBits_zero_f32) (Finset.sum_congr rfl fun e _ => ?_)).trans (zero_add _)
  refine (show _ = select _ _ _ (ix3 e t h) from rfl).trans ?_
  rw [at_select, mask_at, keptMask_at, rows_at]
  by_cases hk : kept (fun t => rt (ix2 t (0 : Fin 1))) t e.val
  · rw [if_pos hk, if_pos]; simp [hk]
  · rw [if_neg hk, if_neg]
    · exact Ideal.ofBits_zero_f32
    · simp [hk]

/-- A token that expert `e` keeps gets that expert's product. -/
theorem refOut_kept (t : Fin 1024) (h : Fin 512) (e : Fin 32) (hk : kept (fun t => rt (ix2 t (0 : Fin 1))) t e.val) :
    (refOut x rt w (ix2 t h) : EReal) = ∑ c : Fin 256, (x (ix2 t c) * w (ix3 e c h) : EReal) := by
  rw [refOut_at]
  refine (Finset.sum_eq_single e (fun e' _ hne => if_neg fun hk' => hne (Fin.ext (hit_inj _ e'.isLt e.isLt hk'.2 hk.2))) fun hn => absurd (Finset.mem_univ _) hn).trans ?_
  rw [if_pos hk]
  exact Finset.sum_congr rfl fun c _ => mul_comm _ _

theorem refOut_dropped (t : Fin 1024) (h : Fin 512) (hn : ∀ e : Fin 32, ¬ kept (fun t => rt (ix2 t (0 : Fin 1))) t e.val) :
    (refOut x rt w (ix2 t h) : EReal) = 0 := by
  rw [refOut_at]
  exact Finset.sum_eq_zero fun e _ => if_neg (hn e)

end Cert.RefAt

end
-- ==== Proof.Fits.lean ====
/-
The precondition read back: no block of tokens holds more than forty-eight tokens that one device's experts keep.
-/
module

public import proofs.«01_k».proof.Proof.Mask
public import proofs.«01_k».proof.Pre_groups_fit_KernelIdeal
public import Idealize.ShloMosaic.Lib.ReduceAll
public import Idealize.ShloMosaic.Lib.StableHlo.Predicate

@[expose] public section

noncomputable section

namespace Cert.Mask

open Idealize.ShloMosaic
open Idealize.ShloMosaic.ValueIdx Idealize.ShloMosaic.Routing
open Finset Cert.Count Cert.KernelIdeal.Run
open Cert.Pre_groups_fit_KernelIdeal

/-- The comparison of each token's route with each expert. -/
theorem hit_bit (rt : IVec S1024x1 32) (h1 : S1024x1.BroadcastsInDim S1024x32 (![0, 1] : Fin 2 → Fin S1024x32.rank))
    (h2 : S32.BroadcastsInDim S1x32 (![1] : Fin 1 → Fin S1x32.rank)) (h3 : S1x32.BroadcastsInDim S1024x32 (![0, 1] : Fin 2 → Fin S1024x32.rank))
    (t : Fin 1024) (e : Fin 32) :
    cmpi .eq (broadcastInDim S1024x32 ![0, 1] h1 rt) (broadcastInDim S1024x32 ![0, 1] h3 (broadcastInDim S1x32 ![1] h2 (iotaInDim S32 32 0))) (ix2 t e)
      = BitVec.ofBool (decide (hit (fun t => rt (ix2 t (0 : Fin 1))) t e.val)) := by
  rw [at_cmpi, eq_bits]
  have ha : broadcastInDim S1024x32 ![0, 1] h1 rt (ix2 t e) = rt (ix2 t (0 : Fin 1)) := by
    refine broadcastInDim_apply _ h1 rt _ _ fun a => ?_
    match a with
    | ⟨0, _⟩ => rfl
    | ⟨1, _⟩ => rfl
  have hb : broadcastInDim S1024x32 ![0, 1] h3 (broadcastInDim S1x32 ![1] h2 (iotaInDim S32 32 0)) (ix2 t e) = BitVec.ofNat 32 e.val := rfl
  rw [ha, hb]
  rfl

variable (g : Route)

theorem cnt_sum (o : Fin 8) (e : ℕ) : cnt g o.val e = ∑ a : Fin 128, if kept g ⟨128 * o.val + a.val, by omega⟩ e then 1 else 0 := by
  unfold cnt
  rw [Finset.card_filter]
  have h1 : ∀ t : Fin 1024, (if t.val / 128 = o.val ∧ kept g t e then 1 else 0) = if t.val / 128 = o.val then (if kept g t e then 1 else 0) else 0 := by
    intro t
    by_cases h : t.val / 128 = o.val <;> simp [h]
  rw [Finset.sum_congr rfl fun t _ => h1 t, ← Finset.sum_filter]
  refine Finset.sum_bij' (fun t _ => (⟨t.val % 128, Nat.mod_lt _ (by decide)⟩ : Fin 128)) (fun a _ => (⟨128 * o.val + a.val, by omega⟩ : Fin 1024))
    (fun _ _ => Finset.mem_univ _) (fun a _ => Finset.mem_filter.2 ⟨Finset.mem_univ _, ?_⟩) (fun t ht => Fin.ext ?_) (fun a _ => Fin.ext ?_) (fun t ht => ?_)
  · show (128 * o.val + a.val) / 128 = o.val; omega
  · have := (Finset.mem_filter.1 ht).2
    show 128 * o.val + t.val % 128 = t.val; omega
  · show (128 * o.val + a.val) % 128 = a.val; omega
  · have := (Finset.mem_filter.1 ht).2
    have he : (⟨128 * o.val + t.val % 128, by omega⟩ : Fin 1024) = t := Fin.ext (by show 128 * o.val + t.val % 128 = t.val; omega)
    rw [he]

abbrev ixq (o : Fin 8) (a : Fin 128) (q : Fin 8) (j : Fin 4) : S8x128x8x4.Idx := fun | ⟨0, _⟩ => o | ⟨1, _⟩ => a | ⟨2, _⟩ => q | ⟨3, _⟩ => j

/-- The sum over a block's tokens and a device's experts. -/
theorem group_sum (v : IVec S8x128x8x4 32) (hv : ∀ (o : Fin 8) (a : Fin 128) (q : Fin 8) (j : Fin 4), v (ixq o a q j) = (BitVec.ofBool (decide (kept g ⟨128 * o.val + a.val, by omega⟩ (4 * q.val + j.val)))).setWidth 32)
    (init : IVec S_ 32) (hinit : ∀ i, init i = 0#32) (h : S8x128x8x4.ReducesTo [1, 3] S8x8) (hu : 0 < S_.numel) (o q : Fin 8) :
    (Host.reduce IntOp.addi v init h hu (ix2 o q)).toNat = ∑ j ∈ range 4, cnt g o.val (4 * q.val + j) ∧ ∑ j ∈ range 4, cnt g o.val (4 * q.val + j) ≤ 4 * 1024 := by
  classical
  have hdrop : ∀ i : S8x128x8x4.Idx, h.drop i = ix2 o q ↔ i 0 = o ∧ i 2 = q := by
    intro i
    have hv0 : (h.drop i 0 : Nat) = i 0 := Shape.ReducesTo.drop_apply_val h i 0
    have hv1 : (h.drop i 1 : Nat) = i 2 := Shape.ReducesTo.drop_apply_val h i 1
    constructor
    · intro e
      rw [e] at hv0 hv1
      exact ⟨Fin.ext hv0.symm, Fin.ext hv1.symm⟩
    · rintro ⟨e1, e2⟩
      funext c
      match c with
      | ⟨0, _⟩ => exact Fin.ext (hv0.trans (congrArg Fin.val e1))
      | ⟨1, _⟩ => exact Fin.ext (hv1.trans (congrArg Fin.val e2))
  have hback : ∀ i : S8x128x8x4.Idx, i 0 = o ∧ i 2 = q → ixq o (i 1) q (i 3) = i := fun i hi => by
    funext c
    match c with
    | ⟨0, _⟩ => exact hi.1.symm
    | ⟨1, _⟩ => rfl
    | ⟨2, _⟩ => exact hi.2.symm
    | ⟨3, _⟩ => rfl
  have hbit : ∀ (o : Fin 8) (a : Fin 128) (q : Fin 8) (j : Fin 4), (v (ixq o a q j)).toNat = if kept g ⟨128 * o.val + a.val, by omega⟩ (4 * q.val + j.val) then 1 else 0 := by
    intro o a q j
    rw [hv, StableHlo.Predicate.toNat_setWidth_bit]
    by_cases hk : kept g ⟨128 * o.val + a.val, by omega⟩ (4 * q.val + j.val) <;> simp [hk]
  have hsum : ∑ i ∈ univ.filter (fun i : S8x128x8x4.Idx => h.drop i = ix2 o q), (v i).toNat = ∑ j ∈ range 4, cnt g o.val (4 * q.val + j) := by
    rw [← Fin.sum_univ_eq_sum_range (fun j => cnt g o.val (4 * q.val + j)) 4, Finset.sum_congr rfl fun (j : Fin 4) _ => cnt_sum g o (4 * q.val + j.val),
      ← Fintype.sum_prod_type' (fun (j : Fin 4) (a : Fin 128) => if kept g ⟨128 * o.val + a.val, by omega⟩ (4 * q.val + j.val) then 1 else 0)]
    refine Finset.sum_bij' (fun i _ => ((i 3, i 1) : Fin 4 × Fin 128)) (fun p _ => ixq o p.2 q p.1) (fun _ _ => Finset.mem_univ _)
      (fun p _ => Finset.mem_filter.2 ⟨Finset.mem_univ _, (hdrop _).2 ⟨rfl, rfl⟩⟩) (fun i hi => hback i ((hdrop i).1 (Finset.mem_filter.1 hi).2)) (fun _ _ => rfl) ?_
    intro i hi
    refine (congrArg (fun z => (v z).toNat) (hback i ((hdrop i).1 (Finset.mem_filter.1 hi).2)).symm).trans (hbit o (i 1) q (i 3))
  have hle : ∑ j ∈ range 4, cnt g o.val (4 * q.val + j) ≤ 4 * 1024 := by
    refine (Finset.sum_le_card_nsmul (range 4) _ 1024 fun j _ => (Finset.card_le_univ _).trans (by simp)).trans (by simp)
  refine ⟨?_, hle⟩
  rw [Host.reduce_eq_fold, hinit]
  rw [StableHlo.Predicate.toNat_fold_addi _ _ (by rw [hsum]; omega), hsum]

instance : Subsingleton S_.Idx := ⟨fun a b => funext fun i => i.elim0⟩

theorem sle_le {z : BitVec 32} {n : ℕ} (h : IntOp.cmpi .sle z 48#32 = 1#1) (hz : z.toNat = n ∧ n ≤ 4 * 1024) : n ≤ 48 := by
  obtain ⟨hz, hn⟩ := hz
  have h' : z.sle 48#32 = true := by
    by_contra hc
    have : IntOp.cmpi .sle z 48#32 = 0#1 := by show BitVec.ofBool (z.sle 48#32) = _; rw [Bool.not_eq_true] at hc; rw [hc]; rfl
    rw [this] at h; exact absurd h (by decide)
  rw [BitVec.sle_eq_decide, decide_eq_true_eq, BitVec.toInt_eq_toNat_of_lt (by omega), show (48#32).toInt = 48 from rfl] at h'
  omega

/-- What the precondition says. -/
theorem fits [Facts] (x : FVec Ideal S1024x256 .f32) (r : FVec Ideal S256x32 .f32) (rt : IVec S1024x1 32) (w : FVec Ideal S4x256x512 .f32)
    (h : fn (F := Ideal) x r rt w = fun _ => 1#1) (o q : Fin 8) :
    ∑ j ∈ range 4, cnt (fun t => rt (ix2 t (0 : Fin 1))) o.val (4 * q.val + j) ≤ 48 := by
  have h0 := congrFun h ix0
  unfold fn fn_cumsum fn_cumsum_0 at h0
  have h1 := Host.reduce_andi_all _ _ _ _ _ h0 (ix2 o q)
  rw [at_cmpi] at h1
  dsimp only at h1
  refine sle_le h1 (group_sum (fun t => rt (ix2 t (0 : Fin 1))) _ ?_ (constantI S_ 32 0#32) (fun _ => rfl) _ _ o q)
  · intro o a q j
    refine (shapeCast_apply _ Facts.shapeCasts_S1024x32_S8x128x8x4 (ixq o a q j) (ix2 (⟨128 * o.val + a.val, by omega⟩ : Fin 1024) (⟨4 * q.val + j.val, by omega⟩ : Fin 32)) ?_).trans ?_
    · rw [Shape.rowMajor_val_two, Shape.rowMajor_val_four]
      show (128 * o.val + a.val) * 32 + (4 * q.val + j.val) = ((o.val * 128 + a.val) * 8 + q.val) * 4 + j.val
      omega
    · rw [at_extui]
      refine congrArg (BitVec.setWidth 32) (kept_bit (fun t => rt (ix2 t (0 : Fin 1))) _ (fun t e => ?_) _ ?_ _ _ (fun _ => ?_) (fun _ => ?_) _ _ _ _)
      · exact congrArg (BitVec.setWidth 32) (hit_bit rt _ _ _ t e)
      · rfl
      · rfl
      · rfl

end Cert.Mask

end
-- ==== Proof.Values.lean ====
/-
The value claim: over the extended reals each device's output is its block of the reference's result.
-/
module

public import proofs.«01_k».proof.Defs
public import proofs.«01_k».proof.Proof.ValE
public import proofs.«01_k».proof.Proof.Final
public import proofs.«01_k».proof.Proof.RefAt
public import proofs.«01_k».proof.Proof.Fits
public import proofs.«01_k».proof.Proof.Frames
public import proofs.«01_k».proof.Proof.Gen.Pre_groups_fit_KernelIdeal
public import proofs.«01_k».proof.Proof.Gen.Pre_groups_fit_ReferenceIdeal
public import Idealize.ShloMosaic.Lib.LayoutAt

@[expose] public section

noncomputable section

namespace Cert.Proof

open Idealize.ShloMosaic hiding ix0 ix1 ix2 ix3
open Idealize.ShloMosaic.ValueIdx Idealize.SL.Sem
open Finset Cert.Count Cert.KernelIdeal.Run

theorem frame_ideal_fits : Cert.quiescent_KernelIdeal_pre_groups_fit_KernelIdeal := fun m ρ _ => Cert.KernelIdeal.Run.run_frame (F := Ideal) m ρ

theorem frame_reference_fits : Cert.quiescent_ReferenceIdeal_pre_groups_fit_ReferenceIdeal := fun m ρ _ => frame_reference m ρ trivial

/-- The block of an expert's matrix on the device that holds it. -/
theorem block_w (W : FVec Ideal ⟨3, ![32, 256, 512]⟩ .f32) (h : Layout.Tiles ⟨3, ![4, 256, 512]⟩ ⟨3, ![32, 256, 512]⟩ 0 8) (q : Fin 8) (l : Fin 4) (k : Fin 256) (c : Fin 512) :
    Layout.block ⟨3, ![4, 256, 512]⟩ ⟨3, ![32, 256, 512]⟩ 0 8 q W h (ix3 l k c) = W (ix3 (⟨4 * q.val + l.val, by omega⟩ : Fin 32) k c) := by
  refine congrArg W ?_
  funext ax
  apply Fin.ext
  rw [Layout.Tiles.idx_val]
  match ax with
  | ⟨0, _⟩ => show q.val * 4 + l.val = 4 * q.val + l.val; omega
  | ⟨1, _⟩ => rfl
  | ⟨2, _⟩ => rfl

/-- A device's block of the result. -/
theorem block_out (V : FVec Ideal ⟨2, ![1024, 512]⟩ .f32) (h : Layout.Tiles ⟨2, ![128, 512]⟩ ⟨2, ![1024, 512]⟩ 0 8) (d : Fin 8) (i : Fin 128) (c : Fin 512) :
    Layout.block ⟨2, ![128, 512]⟩ ⟨2, ![1024, 512]⟩ 0 8 d V h (ix2 i c) = V (ix2 (own d i) c) := by
  refine congrArg V ?_
  funext ax
  apply Fin.ext
  rw [Layout.Tiles.idx_val]
  match ax with
  | ⟨0, _⟩ => show d.val * 128 + i.val = 128 * d.val + i.val; omega
  | ⟨1, _⟩ => rfl

/-- Each device's output is its block of the reference's result. -/
theorem out_block (m : (ℓ : Loc Cert.KernelIdeal.nD Cert.KernelIdeal.τ Cert.KernelIdeal.sig) → Buf (Elt Ideal) ℓ)
    (x : FVec Ideal ⟨2, ![1024, 256]⟩ .f32) (rt : IVec ⟨2, ![1024, 1]⟩ 32) (W : FVec Ideal ⟨3, ![32, 256, 512]⟩ .f32)
    (hx : ∀ c, xAt m c = x) (hrt : ∀ c, rtAt m c = rt) (hw : ∀ (q : Fin 8) (l : Fin 4) (k : Fin 256) (c : Fin 512), wAt m q (ix3 l k c) = W (ix3 (⟨4 * q.val + l.val, by omega⟩ : Fin 32) k c))
    (hfit : ∀ o q : Fin 8, ∑ j ∈ range 4, cnt (routeOf rt) o.val (4 * q.val + j) ≤ 48) (d : Fin 8) (i : Fin 128) (c : Fin 512) :
    (outAt m d (ix2 i c) : EReal) = Cert.RefAt.refOut x rt W (ix2 (own d i) c) := by
  by_cases hn : ∀ e : Fin 32, ¬ kept (routeOf rt) (own d i) e.val
  · rw [Cert.RefAt.refOut_dropped x rt W (own d i) c hn]
    exact out_dropped m d i c (by rw [hrt]; exact hn)
  · rw [not_forall] at hn
    obtain ⟨e, he⟩ := hn
    rw [not_not] at he
    have hs : 4 * (e.val / 4) + e.val % 4 = e.val := by omega
    rw [Cert.RefAt.refOut_kept x rt W (own d i) c e he]
    refine (out_kept m d rt x hrt hx i c (⟨e.val / 4, by omega⟩ : Fin 8) (⟨e.val % 4, Nat.mod_lt _ (by decide)⟩ : Fin 4) (by
      show kept _ _ (4 * (e.val / 4) + e.val % 4); rw [hs]; exact he) (hfit d _)).trans ?_
    refine Finset.sum_congr rfl fun k _ => congrArg (fun z : EReal => _ * z) ?_
    rw [hw]
    have hi : (⟨4 * (e.val / 4) + e.val % 4, by omega⟩ : Fin 32) = e := Fin.ext hs
    exact congrArg (fun z => W (ix3 z k c)) hi

theorem algebraic : Cert.algebraic_KernelIdeal_ReferenceIdeal_pre_groups_fit_KernelIdeal := by
  intro m g m' g' hpre hargs
  refine ⟨_, (θ_run Cert.KernelIdeal.defs _ _).mono (fun r h c => ⟨?_, (h.1 c).2⟩) (Cert.KernelIdeal.Run.run_kept (F := Ideal) m g),
    (θ_run Cert.ReferenceIdeal.defs _ _).mono (fun r h => h 0) (Cert.ReferenceIdeal.Value.run (F := Ideal) m' g')⟩
  refine ((h.1 c).1.trans (final_out m g c)).trans ?_
  funext i
  obtain ⟨i0, i1, rfl⟩ : ∃ (i0 : Fin 128) (i1 : Fin 512), i = ix2 i0 i1 := ⟨i 0, i 1, by
    funext ax
    match ax with
    | ⟨0, _⟩ => rfl
    | ⟨1, _⟩ => rfl⟩
  have hx : ∀ c, xAt m c = _ := fun c => (xAt_eq m c).trans (hargs c).1
  have hrt : ∀ c, rtAt m c = _ := fun c => (rtAt_eq m c).trans (hargs c).2.2.1
  have hfit := fun o q => Cert.Mask.fits _ _ _ _ (hpre 0) o q
  refine (out_block m _ _ (m' (((0 : Dev Cert.ReferenceIdeal.nD).tc : Thread Cert.ReferenceIdeal.nD Cert.ReferenceIdeal.τ).loc Cert.ReferenceIdeal.main_arg3)) hx hrt
    (fun q l k c => ?_) (fun o q => ?_) c i0 i1).trans ?_
  · rw [wAt_eq, (hargs q).2.2.2]
    exact block_w _ _ q l k c
  · rw [← (hargs 0).2.2.1]; exact hfit o q
  · exact (block_out _ _ c i0 i1).symm

end Cert.Proof

end
-- ==== Proof.lean ====
/-
The certificate's claims put together.
-/
module

public import proofs.«01_k».proof.Defs
public import proofs.«01_k».proof.Proof.Frames
public import proofs.«01_k».proof.Proof.Values
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.Pre_groups_fit_KernelIdeal
public import proofs.«01_k».proof.Proof.Gen.Pre_groups_fit_ReferenceIdeal

@[expose] public section

noncomputable section

namespace Cert.Proof

theorem claim : Cert.Claim := ⟨Cert.Kernel.Gen.facts, Cert.KernelIdeal.Gen.facts, Cert.ReferenceIdeal.Gen.facts,
  Cert.Pre_groups_fit_KernelIdeal.Gen.facts, Cert.Pre_groups_fit_ReferenceIdeal.Gen.facts,
  frame_kernel, frame_ideal, frame_ideal_fits, frame_reference, frame_reference_fits, preserves, algebraic⟩

end Cert.Proof

end
